-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x1536x2880 : Shape := ⟨3, ![6, 1536, 2880]⟩
abbrev S6x1536x90 : Shape := ⟨3, ![6, 1536, 90]⟩
abbrev S2880x120 : Shape := ⟨2, ![2880, 120]⟩
abbrev S6x3x128x128 : Shape := ⟨4, ![6, 3, 128, 128]⟩
abbrev S_ : Shape := ⟨0, ![]⟩

class Facts : Prop where
  bcast_S_S6x1536x90 : S_.BroadcastsInDim S6x1536x90 (![] : Fin 0 → Fin S6x1536x90.rank)
  bcast_S_S2880x120 : S_.BroadcastsInDim S2880x120 (![] : Fin 0 → Fin S2880x120.rank)
  bcast_S_S6x3x128x128 : S_.BroadcastsInDim S6x3x128x128 (![] : Fin 0 → Fin S6x3x128x128.rank)

variable [Facts]

def fn {F : FTy → Type} [FloatOps F] (main_arg0 : IVec S6x1536x2880 8) (main_arg1 : FVec F S6x1536x90 .f32) (main_arg2 : FVec F S2880x120 .bf16) (main_arg3 : FVec F S6x3x128x128 .f32) : IVec S6x1536x90 1 × IVec S2880x120 1 × IVec S6x3x128x128 1 :=
  let main_v0 : FVec F S6x1536x90 .f32 := Host.absf main_arg1
  let main_cst : FVec F S_ .f32 := constant S_ .f32 0x7F800000#32
  let main_v1 : FVec F S6x1536x90 .f32 := broadcastInDim S6x1536x90 ![] bcast_S_S6x1536x90 main_cst
  let main_v2 : IVec S6x1536x90 1 := cmpf .olt main_v0 main_v1
  let main_v3 : FVec F S2880x120 .bf16 := Host.absf main_arg2
  let main_cst_0 : FVec F S_ .bf16 := constant S_ .bf16 0x7F80#16
  let main_v4 : FVec F S2880x120 .bf16 := broadcastInDim S2880x120 ![] bcast_S_S2880x120 main_cst_0
  let main_v5 : IVec S2880x120 1 := cmpf .olt main_v3 main_v4
  let main_v6 : FVec F S6x3x128x128 .f32 := Host.absf main_arg3
  let main_cst_1 : FVec F S_ .f32 := constant S_ .f32 0x7F800000#32
  let main_v7 : FVec F S6x3x128x128 .f32 := broadcastInDim S6x3x128x128 ![] bcast_S_S6x3x128x128 main_cst_1
  let main_v8 : IVec S6x3x128x128 1 := cmpf .olt main_v6 main_v7
  (main_v2, main_v5, main_v8)
-- ==== Kernel.lean ====
abbrev S6x1536x2880 : Shape := ⟨3, ![6, 1536, 2880]⟩
abbrev S6x1536x90 : Shape := ⟨3, ![6, 1536, 90]⟩
abbrev S2880x120 : Shape := ⟨2, ![2880, 120]⟩
abbrev S6x3x128x128 : Shape := ⟨4, ![6, 3, 128, 128]⟩
abbrev S6x1536x120 : Shape := ⟨3, ![6, 1536, 120]⟩
abbrev S6x120x2880 : Shape := ⟨3, ![6, 120, 2880]⟩
abbrev S6x3x120x120 : Shape := ⟨4, ![6, 3, 120, 120]⟩
abbrev S1x2880x1536 : Shape := ⟨3, ![1, 2880, 1536]⟩
abbrev S1x1536x2880 : Shape := ⟨3, ![1, 1536, 2880]⟩
abbrev S1x128x2880 : Shape := ⟨3, ![1, 128, 2880]⟩
abbrev S1x128x90 : Shape := ⟨3, ![1, 128, 90]⟩
abbrev S1x90x128 : Shape := ⟨3, ![1, 90, 128]⟩
abbrev S128x2880 : Shape := ⟨2, ![128, 2880]⟩
abbrev S128x1536 : Shape := ⟨2, ![128, 1536]⟩
abbrev S1x384x1536 : Shape := ⟨3, ![1, 384, 1536]⟩
abbrev S128x128 : Shape := ⟨2, ![128, 128]⟩
abbrev S128x768 : Shape := ⟨2, ![128, 768]⟩
abbrev S1536x120 : Shape := ⟨2, ![1536, 120]⟩
abbrev S120x2880 : Shape := ⟨2, ![120, 2880]⟩
abbrev S7 : Shape := ⟨1, ![7]⟩
abbrev S1 : Shape := ⟨1, ![1]⟩
abbrev S_ : Shape := ⟨0, ![]⟩
abbrev S128x120 : Shape := ⟨2, ![128, 120]⟩
abbrev S120x128 : Shape := ⟨2, ![120, 128]⟩
abbrev S64x120 : Shape := ⟨2, ![64, 120]⟩
abbrev S120x64 : Shape := ⟨2, ![120, 64]⟩
abbrev S8x2880 : Shape := ⟨2, ![8, 2880]⟩
abbrev S128x90 : Shape := ⟨2, ![128, 90]⟩
abbrev S90x128 : Shape := ⟨2, ![90, 128]⟩
abbrev S1x128x128 : Shape := ⟨3, ![1, 128, 128]⟩
abbrev S1x1x128 : Shape := ⟨3, ![1, 1, 128]⟩
abbrev S1x128 : Shape := ⟨2, ![1, 128]⟩
abbrev S16x128 : Shape := ⟨2, ![16, 128]⟩
abbrev S1x16x128 : Shape := ⟨3, ![1, 16, 128]⟩
abbrev S1x128x64 : Shape := ⟨3, ![1, 128, 64]⟩
abbrev S128x64 : Shape := ⟨2, ![128, 64]⟩
abbrev S64x128 : Shape := ⟨2, ![64, 128]⟩
abbrev S1x64x128 : Shape := ⟨3, ![1, 64, 128]⟩
abbrev S128x256 : Shape := ⟨2, ![128, 256]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩
abbrev S1x128x256 : Shape := ⟨3, ![1, 128, 256]⟩
abbrev S1x1x120x120 : Shape := ⟨4, ![1, 1, 120, 120]⟩
abbrev S120x120 : Shape := ⟨2, ![120, 120]⟩
abbrev S1x1x128x128 : Shape := ⟨4, ![1, 1, 128, 128]⟩
abbrev S256x128 : Shape := ⟨2, ![256, 128]⟩
abbrev S256x120 : Shape := ⟨2, ![256, 120]⟩
abbrev S1x1536x120 : Shape := ⟨3, ![1, 1536, 120]⟩
abbrev S1x256x64 : Shape := ⟨3, ![1, 256, 64]⟩
abbrev S256x64 : Shape := ⟨2, ![256, 64]⟩
abbrev S120x256 : Shape := ⟨2, ![120, 256]⟩
abbrev S1x120x2880 : Shape := ⟨3, ![1, 120, 2880]⟩

abbrev nBuf : Space → Nat
  | .hbm => 9
  | .vmem => 15
  | .smem => 0
  | _ => 0

abbrev bufTy : (tb : Table) → Fin (tcTables nBuf tb) → BufTy
  | .hbm, ⟨0, _⟩ => ⟨S6x1536x2880, .i8⟩
  | .hbm, ⟨1, _⟩ => ⟨S6x1536x90, .f32⟩
  | .hbm, ⟨2, _⟩ => ⟨S2880x120, .bf16⟩
  | .hbm, ⟨3, _⟩ => ⟨S6x3x128x128, .f32⟩
  | .hbm, ⟨4, _⟩ => ⟨S6x1536x120, .bf16⟩
  | .hbm, ⟨5, _⟩ => ⟨S6x120x2880, .f32⟩
  | .hbm, ⟨6, _⟩ => ⟨S6x1536x120, .bf16⟩
  | .hbm, ⟨7, _⟩ => ⟨S6x1536x120, .bf16⟩
  | .hbm, ⟨8, _⟩ => ⟨S6x3x120x120, .f32⟩
  | .local _ .vmem, ⟨0, _⟩ => ⟨S1x2880x1536, .bf16⟩
  | .local _ .vmem, ⟨1, _⟩ => ⟨S1x1536x2880, .bf16⟩
  | .local _ .vmem, ⟨2, _⟩ => ⟨S1x128x2880, .i8⟩
  | .local _ .vmem, ⟨3, _⟩ => ⟨S1x128x90, .f32⟩
  | .local _ .vmem, ⟨4, _⟩ => ⟨S1x90x128, .f32⟩
  | .local _ .vmem, ⟨5, _⟩ => ⟨S2880x120, .bf16⟩
  | .local _ .vmem, ⟨6, _⟩ => ⟨S128x2880, .bf16⟩
  | .local _ .vmem, ⟨7, _⟩ => ⟨S128x2880, .bf16⟩
  | .local _ .vmem, ⟨8, _⟩ => ⟨S128x1536, .bf16⟩
  | .local _ .vmem, ⟨9, _⟩ => ⟨S1x384x1536, .bf16⟩
  | .local _ .vmem, ⟨10, _⟩ => ⟨S128x128, .f32⟩
  | .local _ .vmem, ⟨11, _⟩ => ⟨S128x128, .f32⟩
  | .local _ .vmem, ⟨12, _⟩ => ⟨S128x768, .bf16⟩
  | .local _ .vmem, ⟨13, _⟩ => ⟨S1536x120, .bf16⟩
  | .local _ .vmem, ⟨14, _⟩ => ⟨S120x2880, .f32⟩
  | _, _ => ⟨S6x1536x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v127 : BitVec 32 := Scalar.addi c0_i32 c6_i32
  let c1_i32 : BitVec 32 := 1#32
  ⟨c0_i32, v127, c1_i32⟩
@[reducible] def k0_t2_loop : Scf.Loop 32 :=
  let c0_i32_75 : BitVec 32 := 0#32
  let c12_i32 : BitVec 32 := 12#32
  let v128 : BitVec 32 := Scalar.addi c0_i32_75 c12_i32
  let c1_i32_76 : BitVec 32 := 1#32
  ⟨c0_i32_75, v128, c1_i32_76⟩
def k0_mult1 (k0_t2 : Fin k0_t2_loop.trips) : BitVec 32 :=
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  v3428
def k0_off1 (k0_t1 : Fin k0_t1_loop.trips) (k0_t2 : Fin k0_t2_loop.trips) : Fin 3 → Nat :=
  let c0_i32 : BitVec 32 := 0#32
  let c1_i32 : BitVec 32 := 1#32
  let arg25 : BitVec 32 := Scf.iv c0_i32 c1_i32 k0_t1
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let c0_i32_3528 : BitVec 32 := 0#32
  ![arg25.toNat, v3429.toNat, 0]
def k0_off2 (k0_t1 : Fin k0_t1_loop.trips) (k0_t2 : Fin k0_t2_loop.trips) : Fin 3 → Nat :=
  let c0_i32 : BitVec 32 := 0#32
  let c1_i32 : BitVec 32 := 1#32
  let arg25 : BitVec 32 := Scf.iv c0_i32 c1_i32 k0_t1
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let c0_i32_3533 : BitVec 32 := 0#32
  ![arg25.toNat, v3429.toNat, 0]
def k0_off3 (k0_t2 : Fin k0_t2_loop.trips) : Fin 3 → Nat :=
  let c0_3556 : Index := 0#32
  let c0_3557 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3473 : Index := Scalar.indexCast v3429
  ![0, 0, v3473.toNat]
def k0_off4 (k0_t2 : Fin k0_t2_loop.trips) : Fin 3 → Nat :=
  let c0_3558 : Index := 0#32
  let c16 : Index := 16#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3479 : Index := Scalar.indexCast v3429
  ![0, 16, v3479.toNat]
def k0_off5 (k0_t2 : Fin k0_t2_loop.trips) : Fin 3 → Nat :=
  let c0_3561 : Index := 0#32
  let c32 : Index := 32#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3490 : Index := Scalar.indexCast v3429
  ![0, 32, v3490.toNat]
def k0_off6 (k0_t2 : Fin k0_t2_loop.trips) : Fin 3 → Nat :=
  let c0_3562 : Index := 0#32
  let c48 : Index := 48#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3496 : Index := Scalar.indexCast v3429
  ![0, 48, v3496.toNat]
def k0_off7 (k0_t2 : Fin k0_t2_loop.trips) : Fin 3 → Nat :=
  let c0_3565 : Index := 0#32
  let c64 : Index := 64#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3507 : Index := Scalar.indexCast v3429
  ![0, 64, v3507.toNat]
def k0_off8 (k0_t2 : Fin k0_t2_loop.trips) : Fin 3 → Nat :=
  let c0_3566 : Index := 0#32
  let c80 : Index := 80#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3513 : Index := Scalar.indexCast v3429
  ![0, 80, v3513.toNat]
def k0_off9 (k0_t2 : Fin k0_t2_loop.trips) : Fin 3 → Nat :=
  let c0_3569 : Index := 0#32
  let c96 : Index := 96#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3524 : Index := Scalar.indexCast v3429
  ![0, 96, v3524.toNat]
def k0_off10 (k0_t2 : Fin k0_t2_loop.trips) : Fin 3 → Nat :=
  let c0_3570 : Index := 0#32
  let c112 : Index := 112#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3530 : Index := Scalar.indexCast v3429
  ![0, 112, v3530.toNat]
def k0_off11 (k0_t2 : Fin k0_t2_loop.trips) : Fin 3 → Nat :=
  let c0_3576 : Index := 0#32
  let c128_3577 : Index := 128#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3545 : Index := Scalar.indexCast v3429
  ![0, 128, v3545.toNat]
def k0_off12 (k0_t2 : Fin k0_t2_loop.trips) : Fin 3 → Nat :=
  let c0_3578 : Index := 0#32
  let c144 : Index := 144#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3551 : Index := Scalar.indexCast v3429
  ![0, 144, v3551.toNat]
def k0_off13 (k0_t2 : Fin k0_t2_loop.trips) : Fin 3 → Nat :=
  let c0_3581 : Index := 0#32
  let c160 : Index := 160#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3562 : Index := Scalar.indexCast v3429
  ![0, 160, v3562.toNat]
def k0_off14 (k0_t2 : Fin k0_t2_loop.trips) : Fin 3 → Nat :=
  let c0_3582 : Index := 0#32
  let c176 : Index := 176#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3568 : Index := Scalar.indexCast v3429
  ![0, 176, v3568.toNat]
def k0_off15 (k0_t2 : Fin k0_t2_loop.trips) : Fin 3 → Nat :=
  let c0_3585 : Index := 0#32
  let c192 : Index := 192#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3579 : Index := Scalar.indexCast v3429
  ![0, 192, v3579.toNat]
def k0_off16 (k0_t2 : Fin k0_t2_loop.trips) : Fin 3 → Nat :=
  let c0_3586 : Index := 0#32
  let c208 : Index := 208#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3585 : Index := Scalar.indexCast v3429
  ![0, 208, v3585.toNat]
def k0_off17 (k0_t2 : Fin k0_t2_loop.trips) : Fin 3 → Nat :=
  let c0_3589 : Index := 0#32
  let c224 : Index := 224#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3596 : Index := Scalar.indexCast v3429
  ![0, 224, v3596.toNat]
def k0_off18 (k0_t2 : Fin k0_t2_loop.trips) : Fin 3 → Nat :=
  let c0_3590 : Index := 0#32
  let c240 : Index := 240#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3602 : Index := Scalar.indexCast v3429
  ![0, 240, v3602.toNat]
def k0_off19 (k0_t2 : Fin k0_t2_loop.trips) : Fin 3 → Nat :=
  let c0_3596 : Index := 0#32
  let c256_3597 : Index := 256#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3617 : Index := Scalar.indexCast v3429
  ![0, 256, v3617.toNat]
def k0_off20 (k0_t2 : Fin k0_t2_loop.trips) : Fin 3 → Nat :=
  let c0_3598 : Index := 0#32
  let c272 : Index := 272#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3623 : Index := Scalar.indexCast v3429
  ![0, 272, v3623.toNat]
def k0_off21 (k0_t2 : Fin k0_t2_loop.trips) : Fin 3 → Nat :=
  let c0_3601 : Index := 0#32
  let c288 : Index := 288#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3634 : Index := Scalar.indexCast v3429
  ![0, 288, v3634.toNat]
def k0_off22 (k0_t2 : Fin k0_t2_loop.trips) : Fin 3 → Nat :=
  let c0_3602 : Index := 0#32
  let c304 : Index := 304#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3640 : Index := Scalar.indexCast v3429
  ![0, 304, v3640.toNat]
def k0_off23 (k0_t2 : Fin k0_t2_loop.trips) : Fin 3 → Nat :=
  let c0_3605 : Index := 0#32
  let c320 : Index := 320#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3651 : Index := Scalar.indexCast v3429
  ![0, 320, v3651.toNat]
def k0_off24 (k0_t2 : Fin k0_t2_loop.trips) : Fin 3 → Nat :=
  let c0_3606 : Index := 0#32
  let c336 : Index := 336#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3657 : Index := Scalar.indexCast v3429
  ![0, 336, v3657.toNat]
def k0_off25 (k0_t2 : Fin k0_t2_loop.trips) : Fin 3 → Nat :=
  let c0_3609 : Index := 0#32
  let c352 : Index := 352#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3668 : Index := Scalar.indexCast v3429
  ![0, 352, v3668.toNat]
def k0_off26 (k0_t2 : Fin k0_t2_loop.trips) : Fin 3 → Nat :=
  let c0_3610 : Index := 0#32
  let c368 : Index := 368#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3674 : Index := Scalar.indexCast v3429
  ![0, 368, v3674.toNat]
def k0_off27 (k0_t2 : Fin k0_t2_loop.trips) : Fin 3 → Nat :=
  let c0_3616 : Index := 0#32
  let c384_3617 : Index := 384#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3689 : Index := Scalar.indexCast v3429
  ![0, 384, v3689.toNat]
def k0_off28 (k0_t2 : Fin k0_t2_loop.trips) : Fin 3 → Nat :=
  let c0_3618 : Index := 0#32
  let c400 : Index := 400#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3695 : Index := Scalar.indexCast v3429
  ![0, 400, v3695.toNat]
def k0_off29 (k0_t2 : Fin k0_t2_loop.trips) : Fin 3 → Nat :=
  let c0_3621 : Index := 0#32
  let c416 : Index := 416#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3706 : Index := Scalar.indexCast v3429
  ![0, 416, v3706.toNat]
def k0_off30 (k0_t2 : Fin k0_t2_loop.trips) : Fin 3 → Nat :=
  let c0_3622 : Index := 0#32
  let c432 : Index := 432#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3712 : Index := Scalar.indexCast v3429
  ![0, 432, v3712.toNat]
def k0_off31 (k0_t2 : Fin k0_t2_loop.trips) : Fin 3 → Nat :=
  let c0_3625 : Index := 0#32
  let c448 : Index := 448#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3723 : Index := Scalar.indexCast v3429
  ![0, 448, v3723.toNat]
def k0_off32 (k0_t2 : Fin k0_t2_loop.trips) : Fin 3 → Nat :=
  let c0_3626 : Index := 0#32
  let c464 : Index := 464#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3729 : Index := Scalar.indexCast v3429
  ![0, 464, v3729.toNat]
def k0_off33 (k0_t2 : Fin k0_t2_loop.trips) : Fin 3 → Nat :=
  let c0_3629 : Index := 0#32
  let c480 : Index := 480#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3740 : Index := Scalar.indexCast v3429
  ![0, 480, v3740.toNat]
def k0_off34 (k0_t2 : Fin k0_t2_loop.trips) : Fin 3 → Nat :=
  let c0_3630 : Index := 0#32
  let c496 : Index := 496#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3746 : Index := Scalar.indexCast v3429
  ![0, 496, v3746.toNat]
def k0_off35 (k0_t2 : Fin k0_t2_loop.trips) : Fin 3 → Nat :=
  let c0_3637 : Index := 0#32
  let c512_3638 : Index := 512#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3761 : Index := Scalar.indexCast v3429
  ![0, 512, v3761.toNat]
def k0_off36 (k0_t2 : Fin k0_t2_loop.trips) : Fin 3 → Nat :=
  let c0_3639 : Index := 0#32
  let c528 : Index := 528#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3767 : Index := Scalar.indexCast v3429
  ![0, 528, v3767.toNat]
def k0_off37 (k0_t2 : Fin k0_t2_loop.trips) : Fin 3 → Nat :=
  let c0_3642 : Index := 0#32
  let c544 : Index := 544#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3778 : Index := Scalar.indexCast v3429
  ![0, 544, v3778.toNat]
def k0_off38 (k0_t2 : Fin k0_t2_loop.trips) : Fin 3 → Nat :=
  let c0_3643 : Index := 0#32
  let c560 : Index := 560#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3784 : Index := Scalar.indexCast v3429
  ![0, 560, v3784.toNat]
def k0_off39 (k0_t2 : Fin k0_t2_loop.trips) : Fin 3 → Nat :=
  let c0_3646 : Index := 0#32
  let c576 : Index := 576#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3795 : Index := Scalar.indexCast v3429
  ![0, 576, v3795.toNat]
def k0_off40 (k0_t2 : Fin k0_t2_loop.trips) : Fin 3 → Nat :=
  let c0_3647 : Index := 0#32
  let c592 : Index := 592#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3801 : Index := Scalar.indexCast v3429
  ![0, 592, v3801.toNat]
def k0_off41 (k0_t2 : Fin k0_t2_loop.trips) : Fin 3 → Nat :=
  let c0_3650 : Index := 0#32
  let c608 : Index := 608#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3812 : Index := Scalar.indexCast v3429
  ![0, 608, v3812.toNat]
def k0_off42 (k0_t2 : Fin k0_t2_loop.trips) : Fin 3 → Nat :=
  let c0_3651 : Index := 0#32
  let c624 : Index := 624#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3818 : Index := Scalar.indexCast v3429
  ![0, 624, v3818.toNat]
def k0_off43 (k0_t2 : Fin k0_t2_loop.trips) : Fin 3 → Nat :=
  let c0_3657 : Index := 0#32
  let c640_3658 : Index := 640#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3833 : Index := Scalar.indexCast v3429
  ![0, 640, v3833.toNat]
def k0_off44 (k0_t2 : Fin k0_t2_loop.trips) : Fin 3 → Nat :=
  let c0_3659 : Index := 0#32
  let c656 : Index := 656#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3839 : Index := Scalar.indexCast v3429
  ![0, 656, v3839.toNat]
def k0_off45 (k0_t2 : Fin k0_t2_loop.trips) : Fin 3 → Nat :=
  let c0_3662 : Index := 0#32
  let c672 : Index := 672#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3850 : Index := Scalar.indexCast v3429
  ![0, 672, v3850.toNat]
def k0_off46 (k0_t2 : Fin k0_t2_loop.trips) : Fin 3 → Nat :=
  let c0_3663 : Index := 0#32
  let c688 : Index := 688#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3856 : Index := Scalar.indexCast v3429
  ![0, 688, v3856.toNat]
def k0_off47 (k0_t2 : Fin k0_t2_loop.trips) : Fin 3 → Nat :=
  let c0_3666 : Index := 0#32
  let c704 : Index := 704#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3867 : Index := Scalar.indexCast v3429
  ![0, 704, v3867.toNat]
def k0_off48 (k0_t2 : Fin k0_t2_loop.trips) : Fin 3 → Nat :=
  let c0_3667 : Index := 0#32
  let c720 : Index := 720#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3873 : Index := Scalar.indexCast v3429
  ![0, 720, v3873.toNat]
def k0_off49 (k0_t2 : Fin k0_t2_loop.trips) : Fin 3 → Nat :=
  let c0_3670 : Index := 0#32
  let c736 : Index := 736#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3884 : Index := Scalar.indexCast v3429
  ![0, 736, v3884.toNat]
def k0_off50 (k0_t2 : Fin k0_t2_loop.trips) : Fin 3 → Nat :=
  let c0_3671 : Index := 0#32
  let c752 : Index := 752#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3890 : Index := Scalar.indexCast v3429
  ![0, 752, v3890.toNat]
def k0_off51 (k0_t2 : Fin k0_t2_loop.trips) : Fin 3 → Nat :=
  let c0_3677 : Index := 0#32
  let c768_3678 : Index := 768#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3905 : Index := Scalar.indexCast v3429
  ![0, 768, v3905.toNat]
def k0_off52 (k0_t2 : Fin k0_t2_loop.trips) : Fin 3 → Nat :=
  let c0_3679 : Index := 0#32
  let c784 : Index := 784#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3911 : Index := Scalar.indexCast v3429
  ![0, 784, v3911.toNat]
def k0_off53 (k0_t2 : Fin k0_t2_loop.trips) : Fin 3 → Nat :=
  let c0_3682 : Index := 0#32
  let c800 : Index := 800#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3922 : Index := Scalar.indexCast v3429
  ![0, 800, v3922.toNat]
def k0_off54 (k0_t2 : Fin k0_t2_loop.trips) : Fin 3 → Nat :=
  let c0_3683 : Index := 0#32
  let c816 : Index := 816#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3928 : Index := Scalar.indexCast v3429
  ![0, 816, v3928.toNat]
def k0_off55 (k0_t2 : Fin k0_t2_loop.trips) : Fin 3 → Nat :=
  let c0_3686 : Index := 0#32
  let c832 : Index := 832#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3939 : Index := Scalar.indexCast v3429
  ![0, 832, v3939.toNat]
def k0_off56 (k0_t2 : Fin k0_t2_loop.trips) : Fin 3 → Nat :=
  let c0_3687 : Index := 0#32
  let c848 : Index := 848#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3945 : Index := Scalar.indexCast v3429
  ![0, 848, v3945.toNat]
def k0_off57 (k0_t2 : Fin k0_t2_loop.trips) : Fin 3 → Nat :=
  let c0_3690 : Index := 0#32
  let c864 : Index := 864#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3956 : Index := Scalar.indexCast v3429
  ![0, 864, v3956.toNat]
def k0_off58 (k0_t2 : Fin k0_t2_loop.trips) : Fin 3 → Nat :=
  let c0_3691 : Index := 0#32
  let c880 : Index := 880#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3962 : Index := Scalar.indexCast v3429
  ![0, 880, v3962.toNat]
def k0_off59 (k0_t2 : Fin k0_t2_loop.trips) : Fin 3 → Nat :=
  let c0_3697 : Index := 0#32
  let c896_3698 : Index := 896#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3977 : Index := Scalar.indexCast v3429
  ![0, 896, v3977.toNat]
def k0_off60 (k0_t2 : Fin k0_t2_loop.trips) : Fin 3 → Nat :=
  let c0_3699 : Index := 0#32
  let c912 : Index := 912#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3983 : Index := Scalar.indexCast v3429
  ![0, 912, v3983.toNat]
def k0_off61 (k0_t2 : Fin k0_t2_loop.trips) : Fin 3 → Nat :=
  let c0_3702 : Index := 0#32
  let c928 : Index := 928#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v3994 : Index := Scalar.indexCast v3429
  ![0, 928, v3994.toNat]
def k0_off62 (k0_t2 : Fin k0_t2_loop.trips) : Fin 3 → Nat :=
  let c0_3703 : Index := 0#32
  let c944 : Index := 944#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4000 : Index := Scalar.indexCast v3429
  ![0, 944, v4000.toNat]
def k0_off63 (k0_t2 : Fin k0_t2_loop.trips) : Fin 3 → Nat :=
  let c0_3706 : Index := 0#32
  let c960 : Index := 960#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4011 : Index := Scalar.indexCast v3429
  ![0, 960, v4011.toNat]
def k0_off64 (k0_t2 : Fin k0_t2_loop.trips) : Fin 3 → Nat :=
  let c0_3707 : Index := 0#32
  let c976 : Index := 976#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4017 : Index := Scalar.indexCast v3429
  ![0, 976, v4017.toNat]
def k0_off65 (k0_t2 : Fin k0_t2_loop.trips) : Fin 3 → Nat :=
  let c0_3710 : Index := 0#32
  let c992 : Index := 992#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4028 : Index := Scalar.indexCast v3429
  ![0, 992, v4028.toNat]
def k0_off66 (k0_t2 : Fin k0_t2_loop.trips) : Fin 3 → Nat :=
  let c0_3711 : Index := 0#32
  let c1008 : Index := 1008#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4034 : Index := Scalar.indexCast v3429
  ![0, 1008, v4034.toNat]
def k0_off67 (k0_t2 : Fin k0_t2_loop.trips) : Fin 3 → Nat :=
  let c0_3718 : Index := 0#32
  let c1024_3719 : Index := 1024#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4049 : Index := Scalar.indexCast v3429
  ![0, 1024, v4049.toNat]
def k0_off68 (k0_t2 : Fin k0_t2_loop.trips) : Fin 3 → Nat :=
  let c0_3720 : Index := 0#32
  let c1040 : Index := 1040#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4055 : Index := Scalar.indexCast v3429
  ![0, 1040, v4055.toNat]
def k0_off69 (k0_t2 : Fin k0_t2_loop.trips) : Fin 3 → Nat :=
  let c0_3723 : Index := 0#32
  let c1056 : Index := 1056#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4066 : Index := Scalar.indexCast v3429
  ![0, 1056, v4066.toNat]
def k0_off70 (k0_t2 : Fin k0_t2_loop.trips) : Fin 3 → Nat :=
  let c0_3724 : Index := 0#32
  let c1072 : Index := 1072#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4072 : Index := Scalar.indexCast v3429
  ![0, 1072, v4072.toNat]
def k0_off71 (k0_t2 : Fin k0_t2_loop.trips) : Fin 3 → Nat :=
  let c0_3727 : Index := 0#32
  let c1088 : Index := 1088#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4083 : Index := Scalar.indexCast v3429
  ![0, 1088, v4083.toNat]
def k0_off72 (k0_t2 : Fin k0_t2_loop.trips) : Fin 3 → Nat :=
  let c0_3728 : Index := 0#32
  let c1104 : Index := 1104#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4089 : Index := Scalar.indexCast v3429
  ![0, 1104, v4089.toNat]
def k0_off73 (k0_t2 : Fin k0_t2_loop.trips) : Fin 3 → Nat :=
  let c0_3731 : Index := 0#32
  let c1120 : Index := 1120#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4100 : Index := Scalar.indexCast v3429
  ![0, 1120, v4100.toNat]
def k0_off74 (k0_t2 : Fin k0_t2_loop.trips) : Fin 3 → Nat :=
  let c0_3732 : Index := 0#32
  let c1136 : Index := 1136#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4106 : Index := Scalar.indexCast v3429
  ![0, 1136, v4106.toNat]
def k0_off75 (k0_t2 : Fin k0_t2_loop.trips) : Fin 3 → Nat :=
  let c0_3738 : Index := 0#32
  let c1152_3739 : Index := 1152#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4121 : Index := Scalar.indexCast v3429
  ![0, 1152, v4121.toNat]
def k0_off76 (k0_t2 : Fin k0_t2_loop.trips) : Fin 3 → Nat :=
  let c0_3740 : Index := 0#32
  let c1168 : Index := 1168#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4127 : Index := Scalar.indexCast v3429
  ![0, 1168, v4127.toNat]
def k0_off77 (k0_t2 : Fin k0_t2_loop.trips) : Fin 3 → Nat :=
  let c0_3743 : Index := 0#32
  let c1184 : Index := 1184#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4138 : Index := Scalar.indexCast v3429
  ![0, 1184, v4138.toNat]
def k0_off78 (k0_t2 : Fin k0_t2_loop.trips) : Fin 3 → Nat :=
  let c0_3744 : Index := 0#32
  let c1200 : Index := 1200#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4144 : Index := Scalar.indexCast v3429
  ![0, 1200, v4144.toNat]
def k0_off79 (k0_t2 : Fin k0_t2_loop.trips) : Fin 3 → Nat :=
  let c0_3747 : Index := 0#32
  let c1216 : Index := 1216#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4155 : Index := Scalar.indexCast v3429
  ![0, 1216, v4155.toNat]
def k0_off80 (k0_t2 : Fin k0_t2_loop.trips) : Fin 3 → Nat :=
  let c0_3748 : Index := 0#32
  let c1232 : Index := 1232#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4161 : Index := Scalar.indexCast v3429
  ![0, 1232, v4161.toNat]
def k0_off81 (k0_t2 : Fin k0_t2_loop.trips) : Fin 3 → Nat :=
  let c0_3751 : Index := 0#32
  let c1248 : Index := 1248#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4172 : Index := Scalar.indexCast v3429
  ![0, 1248, v4172.toNat]
def k0_off82 (k0_t2 : Fin k0_t2_loop.trips) : Fin 3 → Nat :=
  let c0_3752 : Index := 0#32
  let c1264 : Index := 1264#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4178 : Index := Scalar.indexCast v3429
  ![0, 1264, v4178.toNat]
def k0_off83 (k0_t2 : Fin k0_t2_loop.trips) : Fin 3 → Nat :=
  let c0_3758 : Index := 0#32
  let c1280_3759 : Index := 1280#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4193 : Index := Scalar.indexCast v3429
  ![0, 1280, v4193.toNat]
def k0_off84 (k0_t2 : Fin k0_t2_loop.trips) : Fin 3 → Nat :=
  let c0_3760 : Index := 0#32
  let c1296 : Index := 1296#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4199 : Index := Scalar.indexCast v3429
  ![0, 1296, v4199.toNat]
def k0_off85 (k0_t2 : Fin k0_t2_loop.trips) : Fin 3 → Nat :=
  let c0_3763 : Index := 0#32
  let c1312 : Index := 1312#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4210 : Index := Scalar.indexCast v3429
  ![0, 1312, v4210.toNat]
def k0_off86 (k0_t2 : Fin k0_t2_loop.trips) : Fin 3 → Nat :=
  let c0_3764 : Index := 0#32
  let c1328 : Index := 1328#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4216 : Index := Scalar.indexCast v3429
  ![0, 1328, v4216.toNat]
def k0_off87 (k0_t2 : Fin k0_t2_loop.trips) : Fin 3 → Nat :=
  let c0_3767 : Index := 0#32
  let c1344 : Index := 1344#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4227 : Index := Scalar.indexCast v3429
  ![0, 1344, v4227.toNat]
def k0_off88 (k0_t2 : Fin k0_t2_loop.trips) : Fin 3 → Nat :=
  let c0_3768 : Index := 0#32
  let c1360 : Index := 1360#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4233 : Index := Scalar.indexCast v3429
  ![0, 1360, v4233.toNat]
def k0_off89 (k0_t2 : Fin k0_t2_loop.trips) : Fin 3 → Nat :=
  let c0_3771 : Index := 0#32
  let c1376 : Index := 1376#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4244 : Index := Scalar.indexCast v3429
  ![0, 1376, v4244.toNat]
def k0_off90 (k0_t2 : Fin k0_t2_loop.trips) : Fin 3 → Nat :=
  let c0_3772 : Index := 0#32
  let c1392 : Index := 1392#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4250 : Index := Scalar.indexCast v3429
  ![0, 1392, v4250.toNat]
def k0_off91 (k0_t2 : Fin k0_t2_loop.trips) : Fin 3 → Nat :=
  let c0_3778 : Index := 0#32
  let c1408_3779 : Index := 1408#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4265 : Index := Scalar.indexCast v3429
  ![0, 1408, v4265.toNat]
def k0_off92 (k0_t2 : Fin k0_t2_loop.trips) : Fin 3 → Nat :=
  let c0_3780 : Index := 0#32
  let c1424 : Index := 1424#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4271 : Index := Scalar.indexCast v3429
  ![0, 1424, v4271.toNat]
def k0_off93 (k0_t2 : Fin k0_t2_loop.trips) : Fin 3 → Nat :=
  let c0_3783 : Index := 0#32
  let c1440 : Index := 1440#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4282 : Index := Scalar.indexCast v3429
  ![0, 1440, v4282.toNat]
def k0_off94 (k0_t2 : Fin k0_t2_loop.trips) : Fin 3 → Nat :=
  let c0_3784 : Index := 0#32
  let c1456 : Index := 1456#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4288 : Index := Scalar.indexCast v3429
  ![0, 1456, v4288.toNat]
def k0_off95 (k0_t2 : Fin k0_t2_loop.trips) : Fin 3 → Nat :=
  let c0_3787 : Index := 0#32
  let c1472 : Index := 1472#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4299 : Index := Scalar.indexCast v3429
  ![0, 1472, v4299.toNat]
def k0_off96 (k0_t2 : Fin k0_t2_loop.trips) : Fin 3 → Nat :=
  let c0_3788 : Index := 0#32
  let c1488 : Index := 1488#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4305 : Index := Scalar.indexCast v3429
  ![0, 1488, v4305.toNat]
def k0_off97 (k0_t2 : Fin k0_t2_loop.trips) : Fin 3 → Nat :=
  let c0_3791 : Index := 0#32
  let c1504 : Index := 1504#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4316 : Index := Scalar.indexCast v3429
  ![0, 1504, v4316.toNat]
def k0_off98 (k0_t2 : Fin k0_t2_loop.trips) : Fin 3 → Nat :=
  let c0_3792 : Index := 0#32
  let c1520 : Index := 1520#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4322 : Index := Scalar.indexCast v3429
  ![0, 1520, v4322.toNat]
def k0_off99 (k0_t2 : Fin k0_t2_loop.trips) : Fin 3 → Nat :=
  let c0_3799 : Index := 0#32
  let c1536_3800 : Index := 1536#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4337 : Index := Scalar.indexCast v3429
  ![0, 1536, v4337.toNat]
def k0_off100 (k0_t2 : Fin k0_t2_loop.trips) : Fin 3 → Nat :=
  let c0_3801 : Index := 0#32
  let c1552 : Index := 1552#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4343 : Index := Scalar.indexCast v3429
  ![0, 1552, v4343.toNat]
def k0_off101 (k0_t2 : Fin k0_t2_loop.trips) : Fin 3 → Nat :=
  let c0_3804 : Index := 0#32
  let c1568 : Index := 1568#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4354 : Index := Scalar.indexCast v3429
  ![0, 1568, v4354.toNat]
def k0_off102 (k0_t2 : Fin k0_t2_loop.trips) : Fin 3 → Nat :=
  let c0_3805 : Index := 0#32
  let c1584 : Index := 1584#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4360 : Index := Scalar.indexCast v3429
  ![0, 1584, v4360.toNat]
def k0_off103 (k0_t2 : Fin k0_t2_loop.trips) : Fin 3 → Nat :=
  let c0_3808 : Index := 0#32
  let c1600 : Index := 1600#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4371 : Index := Scalar.indexCast v3429
  ![0, 1600, v4371.toNat]
def k0_off104 (k0_t2 : Fin k0_t2_loop.trips) : Fin 3 → Nat :=
  let c0_3809 : Index := 0#32
  let c1616 : Index := 1616#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4377 : Index := Scalar.indexCast v3429
  ![0, 1616, v4377.toNat]
def k0_off105 (k0_t2 : Fin k0_t2_loop.trips) : Fin 3 → Nat :=
  let c0_3812 : Index := 0#32
  let c1632 : Index := 1632#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4388 : Index := Scalar.indexCast v3429
  ![0, 1632, v4388.toNat]
def k0_off106 (k0_t2 : Fin k0_t2_loop.trips) : Fin 3 → Nat :=
  let c0_3813 : Index := 0#32
  let c1648 : Index := 1648#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4394 : Index := Scalar.indexCast v3429
  ![0, 1648, v4394.toNat]
def k0_off107 (k0_t2 : Fin k0_t2_loop.trips) : Fin 3 → Nat :=
  let c0_3819 : Index := 0#32
  let c1664_3820 : Index := 1664#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4409 : Index := Scalar.indexCast v3429
  ![0, 1664, v4409.toNat]
def k0_off108 (k0_t2 : Fin k0_t2_loop.trips) : Fin 3 → Nat :=
  let c0_3821 : Index := 0#32
  let c1680 : Index := 1680#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4415 : Index := Scalar.indexCast v3429
  ![0, 1680, v4415.toNat]
def k0_off109 (k0_t2 : Fin k0_t2_loop.trips) : Fin 3 → Nat :=
  let c0_3824 : Index := 0#32
  let c1696 : Index := 1696#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4426 : Index := Scalar.indexCast v3429
  ![0, 1696, v4426.toNat]
def k0_off110 (k0_t2 : Fin k0_t2_loop.trips) : Fin 3 → Nat :=
  let c0_3825 : Index := 0#32
  let c1712 : Index := 1712#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4432 : Index := Scalar.indexCast v3429
  ![0, 1712, v4432.toNat]
def k0_off111 (k0_t2 : Fin k0_t2_loop.trips) : Fin 3 → Nat :=
  let c0_3828 : Index := 0#32
  let c1728 : Index := 1728#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4443 : Index := Scalar.indexCast v3429
  ![0, 1728, v4443.toNat]
def k0_off112 (k0_t2 : Fin k0_t2_loop.trips) : Fin 3 → Nat :=
  let c0_3829 : Index := 0#32
  let c1744 : Index := 1744#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4449 : Index := Scalar.indexCast v3429
  ![0, 1744, v4449.toNat]
def k0_off113 (k0_t2 : Fin k0_t2_loop.trips) : Fin 3 → Nat :=
  let c0_3832 : Index := 0#32
  let c1760 : Index := 1760#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4460 : Index := Scalar.indexCast v3429
  ![0, 1760, v4460.toNat]
def k0_off114 (k0_t2 : Fin k0_t2_loop.trips) : Fin 3 → Nat :=
  let c0_3833 : Index := 0#32
  let c1776 : Index := 1776#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4466 : Index := Scalar.indexCast v3429
  ![0, 1776, v4466.toNat]
def k0_off115 (k0_t2 : Fin k0_t2_loop.trips) : Fin 3 → Nat :=
  let c0_3839 : Index := 0#32
  let c1792_3840 : Index := 1792#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4481 : Index := Scalar.indexCast v3429
  ![0, 1792, v4481.toNat]
def k0_off116 (k0_t2 : Fin k0_t2_loop.trips) : Fin 3 → Nat :=
  let c0_3841 : Index := 0#32
  let c1808 : Index := 1808#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4487 : Index := Scalar.indexCast v3429
  ![0, 1808, v4487.toNat]
def k0_off117 (k0_t2 : Fin k0_t2_loop.trips) : Fin 3 → Nat :=
  let c0_3844 : Index := 0#32
  let c1824 : Index := 1824#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4498 : Index := Scalar.indexCast v3429
  ![0, 1824, v4498.toNat]
def k0_off118 (k0_t2 : Fin k0_t2_loop.trips) : Fin 3 → Nat :=
  let c0_3845 : Index := 0#32
  let c1840 : Index := 1840#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4504 : Index := Scalar.indexCast v3429
  ![0, 1840, v4504.toNat]
def k0_off119 (k0_t2 : Fin k0_t2_loop.trips) : Fin 3 → Nat :=
  let c0_3848 : Index := 0#32
  let c1856 : Index := 1856#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4515 : Index := Scalar.indexCast v3429
  ![0, 1856, v4515.toNat]
def k0_off120 (k0_t2 : Fin k0_t2_loop.trips) : Fin 3 → Nat :=
  let c0_3849 : Index := 0#32
  let c1872 : Index := 1872#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4521 : Index := Scalar.indexCast v3429
  ![0, 1872, v4521.toNat]
def k0_off121 (k0_t2 : Fin k0_t2_loop.trips) : Fin 3 → Nat :=
  let c0_3852 : Index := 0#32
  let c1888 : Index := 1888#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4532 : Index := Scalar.indexCast v3429
  ![0, 1888, v4532.toNat]
def k0_off122 (k0_t2 : Fin k0_t2_loop.trips) : Fin 3 → Nat :=
  let c0_3853 : Index := 0#32
  let c1904 : Index := 1904#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4538 : Index := Scalar.indexCast v3429
  ![0, 1904, v4538.toNat]
def k0_off123 (k0_t2 : Fin k0_t2_loop.trips) : Fin 3 → Nat :=
  let c0_3859 : Index := 0#32
  let c1920_3860 : Index := 1920#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4553 : Index := Scalar.indexCast v3429
  ![0, 1920, v4553.toNat]
def k0_off124 (k0_t2 : Fin k0_t2_loop.trips) : Fin 3 → Nat :=
  let c0_3861 : Index := 0#32
  let c1936 : Index := 1936#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4559 : Index := Scalar.indexCast v3429
  ![0, 1936, v4559.toNat]
def k0_off125 (k0_t2 : Fin k0_t2_loop.trips) : Fin 3 → Nat :=
  let c0_3864 : Index := 0#32
  let c1952 : Index := 1952#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4570 : Index := Scalar.indexCast v3429
  ![0, 1952, v4570.toNat]
def k0_off126 (k0_t2 : Fin k0_t2_loop.trips) : Fin 3 → Nat :=
  let c0_3865 : Index := 0#32
  let c1968 : Index := 1968#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4576 : Index := Scalar.indexCast v3429
  ![0, 1968, v4576.toNat]
def k0_off127 (k0_t2 : Fin k0_t2_loop.trips) : Fin 3 → Nat :=
  let c0_3868 : Index := 0#32
  let c1984 : Index := 1984#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4587 : Index := Scalar.indexCast v3429
  ![0, 1984, v4587.toNat]
def k0_off128 (k0_t2 : Fin k0_t2_loop.trips) : Fin 3 → Nat :=
  let c0_3869 : Index := 0#32
  let c2000 : Index := 2000#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4593 : Index := Scalar.indexCast v3429
  ![0, 2000, v4593.toNat]
def k0_off129 (k0_t2 : Fin k0_t2_loop.trips) : Fin 3 → Nat :=
  let c0_3872 : Index := 0#32
  let c2016 : Index := 2016#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4604 : Index := Scalar.indexCast v3429
  ![0, 2016, v4604.toNat]
def k0_off130 (k0_t2 : Fin k0_t2_loop.trips) : Fin 3 → Nat :=
  let c0_3873 : Index := 0#32
  let c2032 : Index := 2032#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4610 : Index := Scalar.indexCast v3429
  ![0, 2032, v4610.toNat]
def k0_off131 (k0_t2 : Fin k0_t2_loop.trips) : Fin 3 → Nat :=
  let c0_3880 : Index := 0#32
  let c2048_3881 : Index := 2048#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4625 : Index := Scalar.indexCast v3429
  ![0, 2048, v4625.toNat]
def k0_off132 (k0_t2 : Fin k0_t2_loop.trips) : Fin 3 → Nat :=
  let c0_3882 : Index := 0#32
  let c2064 : Index := 2064#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4631 : Index := Scalar.indexCast v3429
  ![0, 2064, v4631.toNat]
def k0_off133 (k0_t2 : Fin k0_t2_loop.trips) : Fin 3 → Nat :=
  let c0_3885 : Index := 0#32
  let c2080 : Index := 2080#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4642 : Index := Scalar.indexCast v3429
  ![0, 2080, v4642.toNat]
def k0_off134 (k0_t2 : Fin k0_t2_loop.trips) : Fin 3 → Nat :=
  let c0_3886 : Index := 0#32
  let c2096 : Index := 2096#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4648 : Index := Scalar.indexCast v3429
  ![0, 2096, v4648.toNat]
def k0_off135 (k0_t2 : Fin k0_t2_loop.trips) : Fin 3 → Nat :=
  let c0_3889 : Index := 0#32
  let c2112 : Index := 2112#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4659 : Index := Scalar.indexCast v3429
  ![0, 2112, v4659.toNat]
def k0_off136 (k0_t2 : Fin k0_t2_loop.trips) : Fin 3 → Nat :=
  let c0_3890 : Index := 0#32
  let c2128 : Index := 2128#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4665 : Index := Scalar.indexCast v3429
  ![0, 2128, v4665.toNat]
def k0_off137 (k0_t2 : Fin k0_t2_loop.trips) : Fin 3 → Nat :=
  let c0_3893 : Index := 0#32
  let c2144 : Index := 2144#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4676 : Index := Scalar.indexCast v3429
  ![0, 2144, v4676.toNat]
def k0_off138 (k0_t2 : Fin k0_t2_loop.trips) : Fin 3 → Nat :=
  let c0_3894 : Index := 0#32
  let c2160 : Index := 2160#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4682 : Index := Scalar.indexCast v3429
  ![0, 2160, v4682.toNat]
def k0_off139 (k0_t2 : Fin k0_t2_loop.trips) : Fin 3 → Nat :=
  let c0_3900 : Index := 0#32
  let c2176_3901 : Index := 2176#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4697 : Index := Scalar.indexCast v3429
  ![0, 2176, v4697.toNat]
def k0_off140 (k0_t2 : Fin k0_t2_loop.trips) : Fin 3 → Nat :=
  let c0_3902 : Index := 0#32
  let c2192 : Index := 2192#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4703 : Index := Scalar.indexCast v3429
  ![0, 2192, v4703.toNat]
def k0_off141 (k0_t2 : Fin k0_t2_loop.trips) : Fin 3 → Nat :=
  let c0_3905 : Index := 0#32
  let c2208 : Index := 2208#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4714 : Index := Scalar.indexCast v3429
  ![0, 2208, v4714.toNat]
def k0_off142 (k0_t2 : Fin k0_t2_loop.trips) : Fin 3 → Nat :=
  let c0_3906 : Index := 0#32
  let c2224 : Index := 2224#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4720 : Index := Scalar.indexCast v3429
  ![0, 2224, v4720.toNat]
def k0_off143 (k0_t2 : Fin k0_t2_loop.trips) : Fin 3 → Nat :=
  let c0_3909 : Index := 0#32
  let c2240 : Index := 2240#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4731 : Index := Scalar.indexCast v3429
  ![0, 2240, v4731.toNat]
def k0_off144 (k0_t2 : Fin k0_t2_loop.trips) : Fin 3 → Nat :=
  let c0_3910 : Index := 0#32
  let c2256 : Index := 2256#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4737 : Index := Scalar.indexCast v3429
  ![0, 2256, v4737.toNat]
def k0_off145 (k0_t2 : Fin k0_t2_loop.trips) : Fin 3 → Nat :=
  let c0_3913 : Index := 0#32
  let c2272 : Index := 2272#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4748 : Index := Scalar.indexCast v3429
  ![0, 2272, v4748.toNat]
def k0_off146 (k0_t2 : Fin k0_t2_loop.trips) : Fin 3 → Nat :=
  let c0_3914 : Index := 0#32
  let c2288 : Index := 2288#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4754 : Index := Scalar.indexCast v3429
  ![0, 2288, v4754.toNat]
def k0_off147 (k0_t2 : Fin k0_t2_loop.trips) : Fin 3 → Nat :=
  let c0_3920 : Index := 0#32
  let c2304_3921 : Index := 2304#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4769 : Index := Scalar.indexCast v3429
  ![0, 2304, v4769.toNat]
def k0_off148 (k0_t2 : Fin k0_t2_loop.trips) : Fin 3 → Nat :=
  let c0_3922 : Index := 0#32
  let c2320 : Index := 2320#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4775 : Index := Scalar.indexCast v3429
  ![0, 2320, v4775.toNat]
def k0_off149 (k0_t2 : Fin k0_t2_loop.trips) : Fin 3 → Nat :=
  let c0_3925 : Index := 0#32
  let c2336 : Index := 2336#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4786 : Index := Scalar.indexCast v3429
  ![0, 2336, v4786.toNat]
def k0_off150 (k0_t2 : Fin k0_t2_loop.trips) : Fin 3 → Nat :=
  let c0_3926 : Index := 0#32
  let c2352 : Index := 2352#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4792 : Index := Scalar.indexCast v3429
  ![0, 2352, v4792.toNat]
def k0_off151 (k0_t2 : Fin k0_t2_loop.trips) : Fin 3 → Nat :=
  let c0_3929 : Index := 0#32
  let c2368 : Index := 2368#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4803 : Index := Scalar.indexCast v3429
  ![0, 2368, v4803.toNat]
def k0_off152 (k0_t2 : Fin k0_t2_loop.trips) : Fin 3 → Nat :=
  let c0_3930 : Index := 0#32
  let c2384 : Index := 2384#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4809 : Index := Scalar.indexCast v3429
  ![0, 2384, v4809.toNat]
def k0_off153 (k0_t2 : Fin k0_t2_loop.trips) : Fin 3 → Nat :=
  let c0_3933 : Index := 0#32
  let c2400 : Index := 2400#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4820 : Index := Scalar.indexCast v3429
  ![0, 2400, v4820.toNat]
def k0_off154 (k0_t2 : Fin k0_t2_loop.trips) : Fin 3 → Nat :=
  let c0_3934 : Index := 0#32
  let c2416 : Index := 2416#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4826 : Index := Scalar.indexCast v3429
  ![0, 2416, v4826.toNat]
def k0_off155 (k0_t2 : Fin k0_t2_loop.trips) : Fin 3 → Nat :=
  let c0_3940 : Index := 0#32
  let c2432_3941 : Index := 2432#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4841 : Index := Scalar.indexCast v3429
  ![0, 2432, v4841.toNat]
def k0_off156 (k0_t2 : Fin k0_t2_loop.trips) : Fin 3 → Nat :=
  let c0_3942 : Index := 0#32
  let c2448 : Index := 2448#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4847 : Index := Scalar.indexCast v3429
  ![0, 2448, v4847.toNat]
def k0_off157 (k0_t2 : Fin k0_t2_loop.trips) : Fin 3 → Nat :=
  let c0_3945 : Index := 0#32
  let c2464 : Index := 2464#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4858 : Index := Scalar.indexCast v3429
  ![0, 2464, v4858.toNat]
def k0_off158 (k0_t2 : Fin k0_t2_loop.trips) : Fin 3 → Nat :=
  let c0_3946 : Index := 0#32
  let c2480 : Index := 2480#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4864 : Index := Scalar.indexCast v3429
  ![0, 2480, v4864.toNat]
def k0_off159 (k0_t2 : Fin k0_t2_loop.trips) : Fin 3 → Nat :=
  let c0_3949 : Index := 0#32
  let c2496 : Index := 2496#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4875 : Index := Scalar.indexCast v3429
  ![0, 2496, v4875.toNat]
def k0_off160 (k0_t2 : Fin k0_t2_loop.trips) : Fin 3 → Nat :=
  let c0_3950 : Index := 0#32
  let c2512 : Index := 2512#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4881 : Index := Scalar.indexCast v3429
  ![0, 2512, v4881.toNat]
def k0_off161 (k0_t2 : Fin k0_t2_loop.trips) : Fin 3 → Nat :=
  let c0_3953 : Index := 0#32
  let c2528 : Index := 2528#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4892 : Index := Scalar.indexCast v3429
  ![0, 2528, v4892.toNat]
def k0_off162 (k0_t2 : Fin k0_t2_loop.trips) : Fin 3 → Nat :=
  let c0_3954 : Index := 0#32
  let c2544 : Index := 2544#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4898 : Index := Scalar.indexCast v3429
  ![0, 2544, v4898.toNat]
def k0_off163 (k0_t2 : Fin k0_t2_loop.trips) : Fin 3 → Nat :=
  let c0_3961 : Index := 0#32
  let c2560_3962 : Index := 2560#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4913 : Index := Scalar.indexCast v3429
  ![0, 2560, v4913.toNat]
def k0_off164 (k0_t2 : Fin k0_t2_loop.trips) : Fin 3 → Nat :=
  let c0_3963 : Index := 0#32
  let c2576 : Index := 2576#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4919 : Index := Scalar.indexCast v3429
  ![0, 2576, v4919.toNat]
def k0_off165 (k0_t2 : Fin k0_t2_loop.trips) : Fin 3 → Nat :=
  let c0_3966 : Index := 0#32
  let c2592 : Index := 2592#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4930 : Index := Scalar.indexCast v3429
  ![0, 2592, v4930.toNat]
def k0_off166 (k0_t2 : Fin k0_t2_loop.trips) : Fin 3 → Nat :=
  let c0_3967 : Index := 0#32
  let c2608 : Index := 2608#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4936 : Index := Scalar.indexCast v3429
  ![0, 2608, v4936.toNat]
def k0_off167 (k0_t2 : Fin k0_t2_loop.trips) : Fin 3 → Nat :=
  let c0_3970 : Index := 0#32
  let c2624 : Index := 2624#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4947 : Index := Scalar.indexCast v3429
  ![0, 2624, v4947.toNat]
def k0_off168 (k0_t2 : Fin k0_t2_loop.trips) : Fin 3 → Nat :=
  let c0_3971 : Index := 0#32
  let c2640 : Index := 2640#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4953 : Index := Scalar.indexCast v3429
  ![0, 2640, v4953.toNat]
def k0_off169 (k0_t2 : Fin k0_t2_loop.trips) : Fin 3 → Nat :=
  let c0_3974 : Index := 0#32
  let c2656 : Index := 2656#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4964 : Index := Scalar.indexCast v3429
  ![0, 2656, v4964.toNat]
def k0_off170 (k0_t2 : Fin k0_t2_loop.trips) : Fin 3 → Nat :=
  let c0_3975 : Index := 0#32
  let c2672 : Index := 2672#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4970 : Index := Scalar.indexCast v3429
  ![0, 2672, v4970.toNat]
def k0_off171 (k0_t2 : Fin k0_t2_loop.trips) : Fin 3 → Nat :=
  let c0_3981 : Index := 0#32
  let c2688_3982 : Index := 2688#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4985 : Index := Scalar.indexCast v3429
  ![0, 2688, v4985.toNat]
def k0_off172 (k0_t2 : Fin k0_t2_loop.trips) : Fin 3 → Nat :=
  let c0_3983 : Index := 0#32
  let c2704 : Index := 2704#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v4991 : Index := Scalar.indexCast v3429
  ![0, 2704, v4991.toNat]
def k0_off173 (k0_t2 : Fin k0_t2_loop.trips) : Fin 3 → Nat :=
  let c0_3986 : Index := 0#32
  let c2720 : Index := 2720#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5002 : Index := Scalar.indexCast v3429
  ![0, 2720, v5002.toNat]
def k0_off174 (k0_t2 : Fin k0_t2_loop.trips) : Fin 3 → Nat :=
  let c0_3987 : Index := 0#32
  let c2736 : Index := 2736#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5008 : Index := Scalar.indexCast v3429
  ![0, 2736, v5008.toNat]
def k0_off175 (k0_t2 : Fin k0_t2_loop.trips) : Fin 3 → Nat :=
  let c0_3990 : Index := 0#32
  let c2752 : Index := 2752#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5019 : Index := Scalar.indexCast v3429
  ![0, 2752, v5019.toNat]
def k0_off176 (k0_t2 : Fin k0_t2_loop.trips) : Fin 3 → Nat :=
  let c0_3991 : Index := 0#32
  let c2768 : Index := 2768#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5025 : Index := Scalar.indexCast v3429
  ![0, 2768, v5025.toNat]
def k0_off177 (k0_t2 : Fin k0_t2_loop.trips) : Fin 3 → Nat :=
  let c0_3994 : Index := 0#32
  let c2784 : Index := 2784#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5036 : Index := Scalar.indexCast v3429
  ![0, 2784, v5036.toNat]
def k0_off178 (k0_t2 : Fin k0_t2_loop.trips) : Fin 3 → Nat :=
  let c0_3995 : Index := 0#32
  let c2800 : Index := 2800#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5042 : Index := Scalar.indexCast v3429
  ![0, 2800, v5042.toNat]
def k0_off179 (k0_t2 : Fin k0_t2_loop.trips) : Fin 3 → Nat :=
  let c0_4001 : Index := 0#32
  let c2816_4002 : Index := 2816#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5057 : Index := Scalar.indexCast v3429
  ![0, 2816, v5057.toNat]
def k0_off180 (k0_t2 : Fin k0_t2_loop.trips) : Fin 3 → Nat :=
  let c0_4003 : Index := 0#32
  let c2832 : Index := 2832#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5063 : Index := Scalar.indexCast v3429
  ![0, 2832, v5063.toNat]
def k0_off181 (k0_t2 : Fin k0_t2_loop.trips) : Fin 3 → Nat :=
  let c0_4006 : Index := 0#32
  let c2848 : Index := 2848#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5074 : Index := Scalar.indexCast v3429
  ![0, 2848, v5074.toNat]
def k0_off182 (k0_t2 : Fin k0_t2_loop.trips) : Fin 3 → Nat :=
  let c0_4007 : Index := 0#32
  let c2864 : Index := 2864#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5080 : Index := Scalar.indexCast v3429
  ![0, 2864, v5080.toNat]
def k0_off183 (k0_t2 : Fin k0_t2_loop.trips) : Fin 3 → Nat :=
  let c0_4008 : Index := 0#32
  let c0_4009 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5084 : Index := Scalar.indexCast v3429
  ![0, 0, v5084.toNat]
def k0_off184 (k0_t2 : Fin k0_t2_loop.trips) : Fin 3 → Nat :=
  let c0_4010 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5088 : Index := Scalar.indexCast v3429
  let c0_4011 : Index := 0#32
  ![0, v5088.toNat, 0]
def k0_off185 (k0_t2 : Fin k0_t2_loop.trips) : Fin 3 → Nat :=
  let c0_4012 : Index := 0#32
  let c128_4013 : Index := 128#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5092 : Index := Scalar.indexCast v3429
  ![0, 128, v5092.toNat]
def k0_off186 (k0_t2 : Fin k0_t2_loop.trips) : Fin 3 → Nat :=
  let c0_4014 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5096 : Index := Scalar.indexCast v3429
  let c128_4015 : Index := 128#32
  ![0, v5096.toNat, 128]
def k0_off187 (k0_t2 : Fin k0_t2_loop.trips) : Fin 3 → Nat :=
  let c0_4016 : Index := 0#32
  let c256_4017 : Index := 256#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5100 : Index := Scalar.indexCast v3429
  ![0, 256, v5100.toNat]
def k0_off188 (k0_t2 : Fin k0_t2_loop.trips) : Fin 3 → Nat :=
  let c0_4018 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5104 : Index := Scalar.indexCast v3429
  let c256_4019 : Index := 256#32
  ![0, v5104.toNat, 256]
def k0_off189 (k0_t2 : Fin k0_t2_loop.trips) : Fin 3 → Nat :=
  let c0_4020 : Index := 0#32
  let c384_4021 : Index := 384#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5108 : Index := Scalar.indexCast v3429
  ![0, 384, v5108.toNat]
def k0_off190 (k0_t2 : Fin k0_t2_loop.trips) : Fin 3 → Nat :=
  let c0_4022 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5112 : Index := Scalar.indexCast v3429
  let c384_4023 : Index := 384#32
  ![0, v5112.toNat, 384]
def k0_off191 (k0_t2 : Fin k0_t2_loop.trips) : Fin 3 → Nat :=
  let c0_4024 : Index := 0#32
  let c512_4025 : Index := 512#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5116 : Index := Scalar.indexCast v3429
  ![0, 512, v5116.toNat]
def k0_off192 (k0_t2 : Fin k0_t2_loop.trips) : Fin 3 → Nat :=
  let c0_4026 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5120 : Index := Scalar.indexCast v3429
  let c512_4027 : Index := 512#32
  ![0, v5120.toNat, 512]
def k0_off193 (k0_t2 : Fin k0_t2_loop.trips) : Fin 3 → Nat :=
  let c0_4028 : Index := 0#32
  let c640_4029 : Index := 640#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5124 : Index := Scalar.indexCast v3429
  ![0, 640, v5124.toNat]
def k0_off194 (k0_t2 : Fin k0_t2_loop.trips) : Fin 3 → Nat :=
  let c0_4030 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5128 : Index := Scalar.indexCast v3429
  let c640_4031 : Index := 640#32
  ![0, v5128.toNat, 640]
def k0_off195 (k0_t2 : Fin k0_t2_loop.trips) : Fin 3 → Nat :=
  let c0_4032 : Index := 0#32
  let c768_4033 : Index := 768#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5132 : Index := Scalar.indexCast v3429
  ![0, 768, v5132.toNat]
def k0_off196 (k0_t2 : Fin k0_t2_loop.trips) : Fin 3 → Nat :=
  let c0_4034 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5136 : Index := Scalar.indexCast v3429
  let c768_4035 : Index := 768#32
  ![0, v5136.toNat, 768]
def k0_off197 (k0_t2 : Fin k0_t2_loop.trips) : Fin 3 → Nat :=
  let c0_4036 : Index := 0#32
  let c896_4037 : Index := 896#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5140 : Index := Scalar.indexCast v3429
  ![0, 896, v5140.toNat]
def k0_off198 (k0_t2 : Fin k0_t2_loop.trips) : Fin 3 → Nat :=
  let c0_4038 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5144 : Index := Scalar.indexCast v3429
  let c896_4039 : Index := 896#32
  ![0, v5144.toNat, 896]
def k0_off199 (k0_t2 : Fin k0_t2_loop.trips) : Fin 3 → Nat :=
  let c0_4040 : Index := 0#32
  let c1024_4041 : Index := 1024#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5148 : Index := Scalar.indexCast v3429
  ![0, 1024, v5148.toNat]
def k0_off200 (k0_t2 : Fin k0_t2_loop.trips) : Fin 3 → Nat :=
  let c0_4042 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5152 : Index := Scalar.indexCast v3429
  let c1024_4043 : Index := 1024#32
  ![0, v5152.toNat, 1024]
def k0_off201 (k0_t2 : Fin k0_t2_loop.trips) : Fin 3 → Nat :=
  let c0_4044 : Index := 0#32
  let c1152_4045 : Index := 1152#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5156 : Index := Scalar.indexCast v3429
  ![0, 1152, v5156.toNat]
def k0_off202 (k0_t2 : Fin k0_t2_loop.trips) : Fin 3 → Nat :=
  let c0_4046 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5160 : Index := Scalar.indexCast v3429
  let c1152_4047 : Index := 1152#32
  ![0, v5160.toNat, 1152]
def k0_off203 (k0_t2 : Fin k0_t2_loop.trips) : Fin 3 → Nat :=
  let c0_4048 : Index := 0#32
  let c1280_4049 : Index := 1280#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5164 : Index := Scalar.indexCast v3429
  ![0, 1280, v5164.toNat]
def k0_off204 (k0_t2 : Fin k0_t2_loop.trips) : Fin 3 → Nat :=
  let c0_4050 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5168 : Index := Scalar.indexCast v3429
  let c1280_4051 : Index := 1280#32
  ![0, v5168.toNat, 1280]
def k0_off205 (k0_t2 : Fin k0_t2_loop.trips) : Fin 3 → Nat :=
  let c0_4052 : Index := 0#32
  let c1408_4053 : Index := 1408#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5172 : Index := Scalar.indexCast v3429
  ![0, 1408, v5172.toNat]
def k0_off206 (k0_t2 : Fin k0_t2_loop.trips) : Fin 3 → Nat :=
  let c0_4054 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5176 : Index := Scalar.indexCast v3429
  let c1408_4055 : Index := 1408#32
  ![0, v5176.toNat, 1408]
def k0_off207 (k0_t2 : Fin k0_t2_loop.trips) : Fin 3 → Nat :=
  let c0_4056 : Index := 0#32
  let c1536_4057 : Index := 1536#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5180 : Index := Scalar.indexCast v3429
  ![0, 1536, v5180.toNat]
def k0_off208 (k0_t2 : Fin k0_t2_loop.trips) : Fin 3 → Nat :=
  let c0_4058 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5184 : Index := Scalar.indexCast v3429
  let c1536_4059 : Index := 1536#32
  ![0, v5184.toNat, 1536]
def k0_off209 (k0_t2 : Fin k0_t2_loop.trips) : Fin 3 → Nat :=
  let c0_4060 : Index := 0#32
  let c1664_4061 : Index := 1664#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5188 : Index := Scalar.indexCast v3429
  ![0, 1664, v5188.toNat]
def k0_off210 (k0_t2 : Fin k0_t2_loop.trips) : Fin 3 → Nat :=
  let c0_4062 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5192 : Index := Scalar.indexCast v3429
  let c1664_4063 : Index := 1664#32
  ![0, v5192.toNat, 1664]
def k0_off211 (k0_t2 : Fin k0_t2_loop.trips) : Fin 3 → Nat :=
  let c0_4064 : Index := 0#32
  let c1792_4065 : Index := 1792#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5196 : Index := Scalar.indexCast v3429
  ![0, 1792, v5196.toNat]
def k0_off212 (k0_t2 : Fin k0_t2_loop.trips) : Fin 3 → Nat :=
  let c0_4066 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5200 : Index := Scalar.indexCast v3429
  let c1792_4067 : Index := 1792#32
  ![0, v5200.toNat, 1792]
def k0_off213 (k0_t2 : Fin k0_t2_loop.trips) : Fin 3 → Nat :=
  let c0_4068 : Index := 0#32
  let c1920_4069 : Index := 1920#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5204 : Index := Scalar.indexCast v3429
  ![0, 1920, v5204.toNat]
def k0_off214 (k0_t2 : Fin k0_t2_loop.trips) : Fin 3 → Nat :=
  let c0_4070 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5208 : Index := Scalar.indexCast v3429
  let c1920_4071 : Index := 1920#32
  ![0, v5208.toNat, 1920]
def k0_off215 (k0_t2 : Fin k0_t2_loop.trips) : Fin 3 → Nat :=
  let c0_4072 : Index := 0#32
  let c2048_4073 : Index := 2048#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5212 : Index := Scalar.indexCast v3429
  ![0, 2048, v5212.toNat]
def k0_off216 (k0_t2 : Fin k0_t2_loop.trips) : Fin 3 → Nat :=
  let c0_4074 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5216 : Index := Scalar.indexCast v3429
  let c2048_4075 : Index := 2048#32
  ![0, v5216.toNat, 2048]
def k0_off217 (k0_t2 : Fin k0_t2_loop.trips) : Fin 3 → Nat :=
  let c0_4076 : Index := 0#32
  let c2176_4077 : Index := 2176#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5220 : Index := Scalar.indexCast v3429
  ![0, 2176, v5220.toNat]
def k0_off218 (k0_t2 : Fin k0_t2_loop.trips) : Fin 3 → Nat :=
  let c0_4078 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5224 : Index := Scalar.indexCast v3429
  let c2176_4079 : Index := 2176#32
  ![0, v5224.toNat, 2176]
def k0_off219 (k0_t2 : Fin k0_t2_loop.trips) : Fin 3 → Nat :=
  let c0_4080 : Index := 0#32
  let c2304_4081 : Index := 2304#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5228 : Index := Scalar.indexCast v3429
  ![0, 2304, v5228.toNat]
def k0_off220 (k0_t2 : Fin k0_t2_loop.trips) : Fin 3 → Nat :=
  let c0_4082 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5232 : Index := Scalar.indexCast v3429
  let c2304_4083 : Index := 2304#32
  ![0, v5232.toNat, 2304]
def k0_off221 (k0_t2 : Fin k0_t2_loop.trips) : Fin 3 → Nat :=
  let c0_4084 : Index := 0#32
  let c2432_4085 : Index := 2432#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5236 : Index := Scalar.indexCast v3429
  ![0, 2432, v5236.toNat]
def k0_off222 (k0_t2 : Fin k0_t2_loop.trips) : Fin 3 → Nat :=
  let c0_4086 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5240 : Index := Scalar.indexCast v3429
  let c2432_4087 : Index := 2432#32
  ![0, v5240.toNat, 2432]
def k0_off223 (k0_t2 : Fin k0_t2_loop.trips) : Fin 3 → Nat :=
  let c0_4088 : Index := 0#32
  let c2560_4089 : Index := 2560#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5244 : Index := Scalar.indexCast v3429
  ![0, 2560, v5244.toNat]
def k0_off224 (k0_t2 : Fin k0_t2_loop.trips) : Fin 3 → Nat :=
  let c0_4090 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5248 : Index := Scalar.indexCast v3429
  let c2560_4091 : Index := 2560#32
  ![0, v5248.toNat, 2560]
def k0_off225 (k0_t2 : Fin k0_t2_loop.trips) : Fin 3 → Nat :=
  let c0_4092 : Index := 0#32
  let c2688_4093 : Index := 2688#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5252 : Index := Scalar.indexCast v3429
  ![0, 2688, v5252.toNat]
def k0_off226 (k0_t2 : Fin k0_t2_loop.trips) : Fin 3 → Nat :=
  let c0_4094 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5256 : Index := Scalar.indexCast v3429
  let c2688_4095 : Index := 2688#32
  ![0, v5256.toNat, 2688]
def k0_off227 (k0_t2 : Fin k0_t2_loop.trips) : Fin 3 → Nat :=
  let c0_4096 : Index := 0#32
  let c2816_4097 : Index := 2816#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5260 : Index := Scalar.indexCast v3429
  ![0, 2816, v5260.toNat]
def k0_off228 (k0_t2 : Fin k0_t2_loop.trips) : Fin 3 → Nat :=
  let c0_4098 : Index := 0#32
  let c0_i32_75 : BitVec 32 := 0#32
  let c1_i32_76 : BitVec 32 := 1#32
  let arg26 : BitVec 32 := Scf.iv c0_i32_75 c1_i32_76 k0_t2
  let c128_i32 : BitVec 32 := 128#32
  let v3428 : BitVec 32 := Scalar.muli arg26 c128_i32
  let v3429 : BitVec 32 := v3428
  let v5264 : Index := Scalar.indexCast v3429
  let c2816_4099 : Index := 2816#32
  ![0, v5264.toNat, 2816]
def k0_off229 (k0_t1 : Fin k0_t1_loop.trips) : Fin 4 → Nat :=
  let c0_i32 : BitVec 32 := 0#32
  let c1_i32 : BitVec 32 := 1#32
  let arg25 : BitVec 32 := Scf.iv c0_i32 c1_i32 k0_t1
  let c0_i32_614 : BitVec 32 := 0#32
  let c0_i32_615 : BitVec 32 := 0#32
  let c0_i32_616 : BitVec 32 := 0#32
  ![arg25.toNat, 0, 0, 0]
def k0_off230 (k0_t1 : Fin k0_t1_loop.trips) : Fin 4 → Nat :=
  let c0_i32 : BitVec 32 := 0#32
  let c1_i32 : BitVec 32 := 1#32
  let arg25 : BitVec 32 := Scf.iv c0_i32 c1_i32 k0_t1
  let c0_i32_625 : BitVec 32 := 0#32
  let c0_i32_627 : BitVec 32 := 0#32
  let c0_i32_628 : BitVec 32 := 0#32
  ![arg25.toNat, 0, 0, 0]
def k0_off231 (k0_t1 : Fin k0_t1_loop.trips) : Fin 3 → Nat :=
  let c0_i32 : BitVec 32 := 0#32
  let c1_i32 : BitVec 32 := 1#32
  let arg25 : BitVec 32 := Scf.iv c0_i32 c1_i32 k0_t1
  let c0_i32_762 : BitVec 32 := 0#32
  let c0_i32_763 : BitVec 32 := 0#32
  ![arg25.toNat, 0, 0]
def k0_off232 (k0_t1 : Fin k0_t1_loop.trips) : Fin 4 → Nat :=
  let c0_i32 : BitVec 32 := 0#32
  let c1_i32 : BitVec 32 := 1#32
  let arg25 : BitVec 32 := Scf.iv c0_i32 c1_i32 k0_t1
  let c1_i32_1759 : BitVec 32 := 1#32
  let c0_i32_1761 : BitVec 32 := 0#32
  let c0_i32_1762 : BitVec 32 := 0#32
  ![arg25.toNat, 1, 0, 0]
def k0_off233 (k0_t1 : Fin k0_t1_loop.trips) : Fin 4 → Nat :=
  let c0_i32 : BitVec 32 := 0#32
  let c1_i32 : BitVec 32 := 1#32
  let arg25 : BitVec 32 := Scf.iv c0_i32 c1_i32 k0_t1
  let c1_i32_1771 : BitVec 32 := 1#32
  let c0_i32_1773 : BitVec 32 := 0#32
  let c0_i32_1774 : BitVec 32 := 0#32
  ![arg25.toNat, 1, 0, 0]
def k0_off234 (k0_t1 : Fin k0_t1_loop.trips) : Fin 4 → Nat :=
  let c0_i32 : BitVec 32 := 0#32
  let c1_i32 : BitVec 32 := 1#32
  let arg25 : BitVec 32 := Scf.iv c0_i32 c1_i32 k0_t1
  let c2_i32_2907 : BitVec 32 := 2#32
  let c0_i32_2909 : BitVec 32 := 0#32
  let c0_i32_2910 : BitVec 32 := 0#32
  ![arg25.toNat, 2, 0, 0]
def k0_off235 (k0_t1 : Fin k0_t1_loop.trips) : Fin 4 → Nat :=
  let c0_i32 : BitVec 32 := 0#32
  let c1_i32 : BitVec 32 := 1#32
  let arg25 : BitVec 32 := Scf.iv c0_i32 c1_i32 k0_t1
  let c2_i32_2919 : BitVec 32 := 2#32
  let c0_i32_2921 : BitVec 32 := 0#32
  let c0_i32_2922 : BitVec 32 := 0#32
  ![arg25.toNat, 2, 0, 0]
def k0_off236 (k0_t1 : Fin k0_t1_loop.trips) : Fin 3 → Nat :=
  let c0_i32 : BitVec 32 := 0#32
  let c1_i32 : BitVec 32 := 1#32
  let arg25 : BitVec 32 := Scf.iv c0_i32 c1_i32 k0_t1
  let c0_i32_3519 : BitVec 32 := 0#32
  let c0_i32_3520 : BitVec 32 := 0#32
  ![arg25.toNat, 0, 0]
-- ==== ReferenceIdeal.lean ====
abbrev S6x1536x2880 : Shape := ⟨3, ![6, 1536, 2880]⟩
abbrev S6x1536x90 : Shape := ⟨3, ![6, 1536, 90]⟩
abbrev S2880x120 : Shape := ⟨2, ![2880, 120]⟩
abbrev S6x3x128x128 : Shape := ⟨4, ![6, 3, 128, 128]⟩
abbrev S6x1536x90x32 : Shape := ⟨4, ![6, 1536, 90, 32]⟩
abbrev S6x1536x90x1 : Shape := ⟨4, ![6, 1536, 90, 1]⟩
abbrev S6x1536x120 : Shape := ⟨3, ![6, 1536, 120]⟩
abbrev S6x120x120 : Shape := ⟨3, ![6, 120, 120]⟩
abbrev S6x1x128x128 : Shape := ⟨4, ![6, 1, 128, 128]⟩
abbrev S6x128x128 : Shape := ⟨3, ![6, 128, 128]⟩
abbrev S120 : Shape := ⟨1, ![120]⟩
abbrev S120x1 : Shape := ⟨2, ![120, 1]⟩
abbrev S1x120 : Shape := ⟨2, ![1, 120]⟩
abbrev S120x120 : Shape := ⟨2, ![120, 120]⟩
abbrev S_ : Shape := ⟨0, ![]⟩
abbrev S6x2880x120 : Shape := ⟨3, ![6, 2880, 120]⟩
abbrev S6x120x2880 : Shape := ⟨3, ![6, 120, 2880]⟩
abbrev S6x1x120x120 : Shape := ⟨4, ![6, 1, 120, 120]⟩
abbrev S6x3x120x120 : Shape := ⟨4, ![6, 3, 120, 120]⟩

abbrev nBuf : Space → Nat
  | .hbm => 75
  | .vmem => 0
  | .smem => 0
  | _ => 0

abbrev bufTy : (tb : Table) → Fin (tcTables nBuf tb) → BufTy
  | .hbm, ⟨0, _⟩ => ⟨S6x1536x2880, .i8⟩
  | .hbm, ⟨1, _⟩ => ⟨S6x1536x90, .f32⟩
  | .hbm, ⟨2, _⟩ => ⟨S2880x120, .bf16⟩
  | .hbm, ⟨3, _⟩ => ⟨S6x3x128x128, .f32⟩
  | .hbm, ⟨4, _⟩ => ⟨S6x1536x2880, .i32⟩
  | .hbm, ⟨5, _⟩ => ⟨S6x1536x2880, .bf16⟩
  | .hbm, ⟨6, _⟩ => ⟨S6x1536x90, .bf16⟩
  | .hbm, ⟨7, _⟩ => ⟨S6x1536x90x32, .bf16⟩
  | .hbm, ⟨8, _⟩ => ⟨S6x1536x90x1, .bf16⟩
  | .hbm, ⟨9, _⟩ => ⟨S6x1536x90x32, .bf16⟩
  | .hbm, ⟨10, _⟩ => ⟨S6x1536x90x32, .bf16⟩
  | .hbm, ⟨11, _⟩ => ⟨S6x1536x2880, .bf16⟩
  | .hbm, ⟨12, _⟩ => ⟨S6x1536x120, .f32⟩
  | .hbm, ⟨13, _⟩ => ⟨S6x120x120, .f32⟩
  | .hbm, ⟨14, _⟩ => ⟨S6x1x128x128, .f32⟩
  | .hbm, ⟨15, _⟩ => ⟨S6x128x128, .f32⟩
  | .hbm, ⟨16, _⟩ => ⟨S120, .i32⟩
  | .hbm, ⟨17, _⟩ => ⟨S120x1, .i32⟩
  | .hbm, ⟨18, _⟩ => ⟨S1x120, .i32⟩
  | .hbm, ⟨19, _⟩ => ⟨S120x120, .i32⟩
  | .hbm, ⟨20, _⟩ => ⟨S120x120, .i32⟩
  | .hbm, ⟨21, _⟩ => ⟨S120x120, .i1⟩
  | .hbm, ⟨22, _⟩ => ⟨S6x120x120, .f32⟩
  | .hbm, ⟨23, _⟩ => ⟨S_, .f32⟩
  | .hbm, ⟨24, _⟩ => ⟨S_, .f32⟩
  | .hbm, ⟨25, _⟩ => ⟨S6x120x120, .i1⟩
  | .hbm, ⟨26, _⟩ => ⟨S6x120x120, .f32⟩
  | .hbm, ⟨27, _⟩ => ⟨S6x120x120, .f32⟩
  | .hbm, ⟨28, _⟩ => ⟨S6x1536x120, .f32⟩
  | .hbm, ⟨29, _⟩ => ⟨S6x1536x120, .bf16⟩
  | .hbm, ⟨30, _⟩ => ⟨S6x2880x120, .f32⟩
  | .hbm, ⟨31, _⟩ => ⟨S6x2880x120, .bf16⟩
  | .hbm, ⟨32, _⟩ => ⟨S6x1536x120, .f32⟩
  | .hbm, ⟨33, _⟩ => ⟨S6x120x120, .f32⟩
  | .hbm, ⟨34, _⟩ => ⟨S6x1x128x128, .f32⟩
  | .hbm, ⟨35, _⟩ => ⟨S6x128x128, .f32⟩
  | .hbm, ⟨36, _⟩ => ⟨S120, .i32⟩
  | .hbm, ⟨37, _⟩ => ⟨S120x1, .i32⟩
  | .hbm, ⟨38, _⟩ => ⟨S1x120, .i32⟩
  | .hbm, ⟨39, _⟩ => ⟨S120x120, .i32⟩
  | .hbm, ⟨40, _⟩ => ⟨S120x120, .i32⟩
  | .hbm, ⟨41, _⟩ => ⟨S120x120, .i1⟩
  | .hbm, ⟨42, _⟩ => ⟨S6x120x120, .f32⟩
  | .hbm, ⟨43, _⟩ => ⟨S_, .f32⟩
  | .hbm, ⟨44, _⟩ => ⟨S_, .f32⟩
  | .hbm, ⟨45, _⟩ => ⟨S6x120x120, .i1⟩
  | .hbm, ⟨46, _⟩ => ⟨S6x120x120, .f32⟩
  | .hbm, ⟨47, _⟩ => ⟨S6x120x120, .f32⟩
  | .hbm, ⟨48, _⟩ => ⟨S6x1536x120, .f32⟩
  | .hbm, ⟨49, _⟩ => ⟨S6x1536x120, .bf16⟩
  | .hbm, ⟨50, _⟩ => ⟨S6x2880x120, .f32⟩
  | .hbm, ⟨51, _⟩ => ⟨S6x2880x120, .bf16⟩
  | .hbm, ⟨52, _⟩ => ⟨S6x1536x120, .f32⟩
  | .hbm, ⟨53, _⟩ => ⟨S6x120x120, .f32⟩
  | .hbm, ⟨54, _⟩ => ⟨S6x1x128x128, .f32⟩
  | .hbm, ⟨55, _⟩ => ⟨S6x128x128, .f32⟩
  | .hbm, ⟨56, _⟩ => ⟨S120, .i32⟩
  | .hbm, ⟨57, _⟩ => ⟨S120x1, .i32⟩
  | .hbm, ⟨58, _⟩ => ⟨S1x120, .i32⟩
  | .hbm, ⟨59, _⟩ => ⟨S120x120, .i32⟩
  | .hbm, ⟨60, _⟩ => ⟨S120x120, .i32⟩
  | .hbm, ⟨61, _⟩ => ⟨S120x120, .i1⟩
  | .hbm, ⟨62, _⟩ => ⟨S6x120x120, .f32⟩
  | .hbm, ⟨63, _⟩ => ⟨S_, .f32⟩
  | .hbm, ⟨64, _⟩ => ⟨S_, .f32⟩
  | .hbm, ⟨65, _⟩ => ⟨S6x120x120, .i1⟩
  | .hbm, ⟨66, _⟩ => ⟨S6x120x120, .f32⟩
  | .hbm, ⟨67, _⟩ => ⟨S6x120x120, .f32⟩
  | .hbm, ⟨68, _⟩ => ⟨S6x1536x120, .f32⟩
  | .hbm, ⟨69, _⟩ => ⟨S6x1536x120, .bf16⟩
  | .hbm, ⟨70, _⟩ => ⟨S6x120x2880, .f32⟩
  | .hbm, ⟨71, _⟩ => ⟨S6x1x120x120, .f32⟩
  | .hbm, ⟨72, _⟩ => ⟨S6x1x120x120, .f32⟩
  | .hbm, ⟨73, _⟩ => ⟨S6x1x120x120, .f32⟩
  | .hbm, ⟨74, _⟩ => ⟨S6x3x120x120, .f32⟩
  | _, _ => ⟨S6x1536x2880, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_1 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Proof.Jobs.lean ====
/- The kernel's body written again as a sequence of named jobs: each job is one step of the
   algorithm (a block of the transpose, a tile of a product, a copy), and the unrolled loops
   are loops over jobs. `BodyEq.lean` shows that the printed body is this sequence. -/
module

public import proofs.«01_k».proof.Proof.Gen.KernelIdeal

@[expose] public section

noncomputable section

namespace Cert.KernelIdeal.Hand

open Idealize.ShloMosaic Idealize.SL.Sem
open Facts₀ Facts

/-- The programs of the kernel's core. -/
abbrev P (F : FTy → Type) (α : Type) := Prog (TpuEff nD τ sig (Elt F) Λ₀ .tc) α

/-- A matrix shape, and a matrix shape under a leading one. -/
abbrev Mx (h w : ℕ) : Shape := ⟨2, ![h, w]⟩
abbrev Mx1 (h w : ℕ) : Shape := ⟨3, ![1, h, w]⟩

/-- The kernel's buffers: the arrays it is given, the results, and its scratch. -/
structure Bufs where
  codes : Memref sig .tc .hbm S6x1536x2880 .i8
  hcodes : codes.IsWhole
  scale : Memref sig .tc .hbm S6x1536x90 .f32
  hscale : scale.IsWhole
  omega : Memref sig .tc .hbm S2880x120 .bf16
  homega : omega.IsWhole
  tinv : Memref sig .tc .hbm S6x3x128x128 .f32
  htinv : tinv.IsWhole
  q : Memref sig .tc .hbm S6x1536x120 .bf16
  hq : q.IsWhole
  b : Memref sig .tc .hbm S6x120x2880 .f32
  hb : b.IsWhole
  q0 : Memref sig .tc .hbm S6x1536x120 .bf16
  hq0 : q0.IsWhole
  q1 : Memref sig .tc .hbm S6x1536x120 .bf16
  hq1 : q1.IsWhole
  g : Memref sig .tc .hbm S6x3x120x120 .f32
  hg : g.IsWhole
  at' : Memref sig .tc .vmem S1x2880x1536 .bf16
  hat : at'.IsWhole
  an : Memref sig .tc .vmem S1x1536x2880 .bf16
  han : an.IsWhole
  stg : Memref sig .tc .vmem S1x128x2880 .i8
  hstg : stg.IsWhole
  sstg : Memref sig .tc .vmem S1x128x90 .f32
  hsstg : sstg.IsWhole
  scd : Memref sig .tc .vmem S1x90x128 .f32
  hscd : scd.IsWhole
  om : Memref sig .tc .vmem S2880x120 .bf16
  hom : om.IsWhole
  omt : Memref sig .tc .vmem S128x2880 .bf16
  homt : omt.IsWhole
  wt : Memref sig .tc .vmem S128x2880 .bf16
  hwt : wt.IsWhole
  qt : Memref sig .tc .vmem S128x1536 .bf16
  hqt : qt.IsWhole
  yc : Memref sig .tc .vmem S1x384x1536 .bf16
  hyc : yc.IsWhole
  gm : Memref sig .tc .vmem S128x128 .f32
  hgm : gm.IsWhole
  tm : Memref sig .tc .vmem S128x128 .f32
  htm : tm.IsWhole
  tc : Memref sig .tc .vmem S128x768 .bf16
  htc : tc.IsWhole
  qst : Memref sig .tc .vmem S1536x120 .bf16
  hqst : qst.IsWhole
  bst : Memref sig .tc .vmem S120x2880 .f32
  hbst : bst.IsWhole
  sem : DmaSems sig S7

/-! ### Loads and stores of a block of a matrix -/

theorem inb2 {R C r c h w : ℕ} (hr : r + h ≤ R) (hc : c + w ≤ C) :
    ∀ a, (![r, c] : Fin 2 → ℕ) a + (Mx h w).size a ≤ (Mx R C).size a := by
  intro a
  match a with
  | 0 => exact hr
  | 1 => exact hc

theorem inb3 {R C r c h w : ℕ} (hr : r + h ≤ R) (hc : c + w ≤ C) :
    ∀ a, (![0, r, c] : Fin 3 → ℕ) a + (Mx1 h w).size a ≤ (Mx1 R C).size a := by
  intro a
  match a with
  | 0 => exact Nat.le_refl 1
  | 1 => exact hr
  | 2 => exact hc

/-- The block at row `r` and column `c`, `h` by `w`. -/
abbrev box2 (R C r c h w : ℕ) (hr : r + h ≤ R) (hc : c + w ≤ C) : Rect (Mx R C) :=
  Rect.unit (s := Mx R C) ![r, c] ![h, w] (inb2 hr hc)
abbrev box3 (R C r c h w : ℕ) (hr : r + h ≤ R) (hc : c + w ≤ C) : Rect (Mx1 R C) :=
  Rect.unit (s := Mx1 R C) ![0, r, c] ![1, h, w] (inb3 hr hc)

theorem numel2 (h w : ℕ) : (Mx h w).numel = h * w := by
  simp [Shape.numel, Fin.prod_univ_two]

theorem numel3 (h w : ℕ) : (Mx1 h w).numel = h * w := by
  simp [Shape.numel, Fin.prod_univ_three]

theorem pos2 {h w : ℕ} (hh : 0 < h) (hw : 0 < w) : 0 < (Mx h w).numel := by
  rw [numel2]; exact Nat.mul_pos hh hw

theorem pos3 {h w : ℕ} (hh : 0 < h) (hw : 0 < w) : 0 < (Mx1 h w).numel := by
  rw [numel3]; exact Nat.mul_pos hh hw

theorem cast12 (h w : ℕ) : (Mx1 h w).ShapeCasts (Mx h w) := (numel2 h w).trans (numel3 h w).symm
theorem cast21 (h w : ℕ) : (Mx h w).ShapeCasts (Mx1 h w) := (numel3 h w).trans (numel2 h w).symm

variable {F : FTy → Type} [FloatOps F]

section access
variable {e : EltTy} {R C : ℕ}

/-- Load a block of a matrix. -/
def ld2 (m : Memref sig .tc .vmem (Mx R C) e) (r c h w : ℕ) (hr : r + h ≤ R) (hc : c + w ≤ C)
    (hh : 0 < h) (hw : 0 < w) : P F (Vec F (Mx h w) e) :=
  Prog.lift (.load m (box2 R C r c h w hr hc).toLoadRect (View.loadsAt_vmem (pos2 hh hw)))

/-- Store a block of a matrix (the printed program loads the old contents first). -/
def st2 (m : Memref sig .tc .vmem (Mx R C) e) (r c h w : ℕ) (hr : r + h ≤ R) (hc : c + w ≤ C)
    (hh : 0 < h) (hw : 0 < w) (hs : (m.access (box2 R C r c h w hr hc)).Stores Finset.univ)
    (x : Vec F (Mx h w) e) : P F PUnit := do
  let _ ← ld2 m r c h w hr hc hh hw
  Prog.lift (.store m (box2 R C r c h w hr hc) (shapeCast (Mx h w) x rfl) Finset.univ hs (.inl rfl))

/-- Load a block of a matrix that lies under a leading one. -/
def ld3 (m : Memref sig .tc .vmem (Mx1 R C) e) (r c h w : ℕ) (hr : r + h ≤ R) (hc : c + w ≤ C)
    (hh : 0 < h) (hw : 0 < w) : P F (Vec F (Mx h w) e) := do
  let v ← Prog.lift (.load m (box3 R C r c h w hr hc).toLoadRect (View.loadsAt_vmem (pos3 hh hw)))
  pure (shapeCast (Mx h w) v (cast12 h w))

/-- Store a block of a matrix that lies under a leading one. -/
def st3 (m : Memref sig .tc .vmem (Mx1 R C) e) (r c h w : ℕ) (hr : r + h ≤ R) (hc : c + w ≤ C)
    (hh : 0 < h) (hw : 0 < w) (hs : (m.access (box3 R C r c h w hr hc)).Stores Finset.univ)
    (x : Vec F (Mx h w) e) : P F PUnit := do
  let _ ← ld3 m r c h w hr hc hh hw
  Prog.lift (.store m (box3 R C r c h w hr hc) (shapeCast (Mx1 h w) x (cast21 h w)) Finset.univ hs (.inl rfl))

end access

/-- A store of whole pairs of rows of a two-byte matrix is exact. -/
theorem ok2 {R C r c h w : ℕ} {m : Memref sig .tc .vmem (Mx R C) .bf16} (hm : m.IsWhole) {hr : r + h ≤ R}
    {hc : c + w ≤ C} (hh : 0 < h) (hw : 0 < w) (h1 : 2 ∣ r) (h2 : 2 ∣ h) :
    (m.access (box2 R C r c h w hr hc)).Stores Finset.univ :=
  View.stores_vmem (pos2 hh hw)
    (hm.storeExact_slice rfl _ (.inr ⟨Nat.le_refl 2, rfl, .inl ⟨h1, h2⟩⟩)) (fun _ => rfl)

theorem ok3 {R C r c h w : ℕ} {m : Memref sig .tc .vmem (Mx1 R C) .bf16} (hm : m.IsWhole) {hr : r + h ≤ R}
    {hc : c + w ≤ C} (hh : 0 < h) (hw : 0 < w) (h1 : 2 ∣ r) (h2 : 2 ∣ h) :
    (m.access (box3 R C r c h w hr hc)).Stores Finset.univ :=
  View.stores_vmem (pos3 hh hw)
    (hm.storeExact_slice rfl _ (.inr ⟨(Nat.le_succ 2 : 2 ≤ 3), rfl, .inl ⟨h1, h2⟩⟩)) (fun _ => rfl)

/-- Every store of a four-byte matrix is exact. -/
theorem ok2f {R C r c h w : ℕ} {m : Memref sig .tc .vmem (Mx R C) .f32} {hr : r + h ≤ R}
    {hc : c + w ≤ C} (hh : 0 < h) (hw : 0 < w) :
    (m.access (box2 R C r c h w hr hc)).Stores Finset.univ :=
  View.stores_vmem_bits_univ (pos2 hh hw) rfl

theorem ok3f {R C r c h w : ℕ} {m : Memref sig .tc .vmem (Mx1 R C) .f32} {hr : r + h ≤ R}
    {hc : c + w ≤ C} (hh : 0 < h) (hw : 0 < w) :
    (m.access (box3 R C r c h w hr hc)).Stores Finset.univ :=
  View.stores_vmem_bits_univ (pos3 hh hw) rfl

/-- `f 0; …; f (n-1)`. -/
def forN : (n : ℕ) → ((i : ℕ) → i < n → P F PUnit) → P F PUnit
  | 0, _ => pure ⟨⟩
  | n + 1, f => do
    forN n (fun i h => f i (Nat.lt_succ_of_lt h))
    f n (Nat.lt_succ_self n)

/-- The terms `f 0, …, f n`, added from the left. -/
def sumN {s : Shape} : (n : ℕ) → ((i : ℕ) → i < n + 1 → P F (FVec F s .f32)) → P F (FVec F s .f32)
  | 0, f => f 0 (Nat.lt_succ_self 0)
  | n + 1, f => do
    let a ← sumN n (fun i h => f i (Nat.lt_succ_of_lt h))
    let b ← f (n + 1) (Nat.lt_succ_self _)
    pure (addf a b)

theorem slicesM {RR o k w W : ℕ} (c : ℕ) (h : o + k ≤ RR) (hw : c + w ≤ W) :
    (Mx RR W).Slices ![o, c] (Mx k w) :=
  ⟨rfl, fun a => match a with
    | 0 => h
    | 1 => hw⟩

theorem transposesM (h w : ℕ) : (Mx h w).Transposes [1, 0] (Mx w h) :=
  ⟨(by decide : ([1, 0] : List (Fin 2)).Perm (List.finRange 2)), rfl, fun a => match a with
    | 0 => rfl
    | 1 => rfl⟩

/-! ### The jobs -/

variable [Facts] (B : Bufs)

/-- One group of 32 rows of the transposed matrix: the group's scales, one lane per row of
    the matrix, times the group's codes, sixteen rows at a time. `o` is the group's first
    row in the block of codes `v`, `g` the group, `s` the chunk's first lane. -/
def tGroup {RR : ℕ} (v : FVec F (Mx RR 128) .bf16) (g o s : ℕ) (hs : s + 128 ≤ 1536) (hg : g < 90)
    (ho : o + 32 ≤ RR) : P F PUnit := do
  let sc ← ld3 B.scd g 0 1 128 (by omega) (by omega) (by omega) (by omega)
  let w : FVec F S16x128 .bf16 := truncf .bf16 (broadcastTo S16x128 (shapeCast S1x128 sc shapeCasts_S1x128_S1x128) broadcasts_S1x128_S16x128) bitsLt_bf16_f32
  st3 B.at' (32 * g) s 16 128 (by omega) (by omega) (by omega) (by omega) (ok3 B.hat (by omega) (by omega) (by omega) (by omega))
    (mulf (extractStridedSlice S16x128 ![o, 0] v (slicesM 0 (by omega) (by omega))) w)
  st3 B.at' (32 * g + 16) s 16 128 (by omega) (by omega) (by omega) (by omega) (ok3 B.hat (by omega) (by omega) (by omega) (by omega))
    (mulf (extractStridedSlice S16x128 ![o + 16, 0] v (slicesM 0 (by omega) (by omega))) w)

/-- A block of `4` groups of the chunk's codes. -/
def tBlock (s : ℕ) (hs : s + 128 ≤ 1536) (i : ℕ) (hi : i < 22) : P F PUnit := do
  let c ← ld3 B.stg 0 (128 * i) 128 128 (by omega) (by omega) (by omega) (by omega)
  let v : FVec F (Mx 128 128) .bf16 := sitofp .bf16 (transpose S128x128 [1, 0] c transposes_S128x128_p1_0_S128x128)
  forN 4 fun j hj => tGroup B v (4 * i + j) (32 * j) s hs (by omega) (by omega)

/-- The last block of the chunk's codes, of two groups. -/
def tLast (s : ℕ) (hs : s + 128 ≤ 1536) : P F PUnit := do
  let c ← ld3 B.stg 0 2816 128 64 (by omega) (by omega) (by omega) (by omega)
  let v : FVec F (Mx 64 128) .bf16 := sitofp .bf16 (transpose S64x128 [1, 0] c (transposesM 128 64))
  forN 2 fun j hj => tGroup B v (88 + j) (32 * j) s hs (by omega) (by omega)

/-- A block of the chunk's rows of the matrix, transposed back. -/
def nBlock (s : ℕ) (hs : s + 128 ≤ 1536) (hs2 : 2 ∣ s) (i : ℕ) (hi : i < 22) : P F PUnit := do
  let c ← ld3 B.at' (128 * i) s 128 128 (by omega) (by omega) (by omega) (by omega)
  st3 B.an s (128 * i) 128 128 (by omega) (by omega) (by omega) (by omega) (ok3 B.han (by omega) (by omega) hs2 (by omega))
    (transpose S128x128 [1, 0] c transposes_S128x128_p1_0_S128x128)

def nLast (s : ℕ) (hs : s + 128 ≤ 1536) (hs2 : 2 ∣ s) : P F PUnit := do
  let c ← ld3 B.at' 2816 s 64 128 (by omega) (by omega) (by omega) (by omega)
  st3 B.an s 2816 128 64 (by omega) (by omega) (by omega) (by omega) (ok3 B.han (by omega) (by omega) hs2 (by omega))
    (transpose S128x64 [1, 0] c (transposesM 64 128))

/-- One of the seven semaphores. -/
abbrev cell (k : Fin 7) (h : ∀ a, (![k.val] : Fin 1 → ℕ) a + S1.size a ≤ S7.size a) : DmaSem sig :=
  ((B.sem.slice (Rect.unit (s := S7) ![k.val] S1.size h)).squeeze S_ squeezes_S1_S_).sem

/-- The staging buffers as matrices. -/
abbrev stgM : Memref sig .tc .vmem S128x2880 .i8 :=
  (B.stg.slice (Rect.unit (s := S1x128x2880) ![0, 0, 0] S1x128x2880.size inb_S1x128x2880_S1x128x2880_0_0_0) (fun _ => rfl)).squeeze S128x2880 squeezes_S1x128x2880_S128x2880
abbrev sstgM : Memref sig .tc .vmem S128x90 .f32 :=
  (B.sstg.slice (Rect.unit (s := S1x128x90) ![0, 0, 0] S1x128x90.size inb_S1x128x90_S1x128x90_0_0_0) (fun _ => rfl)).squeeze S128x90 squeezes_S1x128x90_S128x90

/-- The chunk's codes and scales in the arrays. -/
abbrev codesM (t1 : Fin k0_t1_loop.trips) (t2 : Fin k0_t2_loop.trips) : Memref sig .tc .hbm S128x2880 .i8 :=
  (B.codes.slice (Rect.unit (s := S6x1536x2880) (k0_off1 t1 t2) S1x128x2880.size (k0_off1_inb t1 t2)) (fun _ => rfl)).squeeze S128x2880 squeezes_S1x128x2880_S128x2880
abbrev scaleM (t1 : Fin k0_t1_loop.trips) (t2 : Fin k0_t2_loop.trips) : Memref sig .tc .hbm S128x90 .f32 :=
  (B.scale.slice (Rect.unit (s := S6x1536x90) (k0_off2 t1 t2) S1x128x90.size (k0_off2_inb t1 t2)) (fun _ => rfl)).squeeze S128x90 squeezes_S1x128x90_S128x90

/-- Copy the chunk's codes and scales in. -/
def copyIn (t1 : Fin k0_t1_loop.trips) (t2 : Fin k0_t2_loop.trips) : P F PUnit := do
  Prog.lift (.enqueueDma (codesM B t1 t2) (.here (stgM B)) (.dma (cell B 0 inb_S7_S1_0)) ((B.hcodes.wordExact_slice rfl _ (k0_off1_wordsi8 t1 t2)).reshape _ _) ((B.hstg.wordExact_slice rfl _ wordsi8_S1x128x2880_S1x128x2880_0_0_0).reshape _ _) ⟨Or.inl rfl, trivial⟩)
  Prog.lift (.enqueueDma (scaleM B t1 t2) (.here (sstgM B)) (.dma (cell B 1 inb_S7_S1_1)) ((View.wordExact_bits rfl).reshape _ _) ((View.wordExact_bits rfl).reshape _ _) ⟨Or.inl rfl, trivial⟩)
  Prog.lift (.waitDma2 (cell B 0 inb_S7_S1_0) (codesM B t1 t2) (stgM B) ((B.hcodes.wordExact_slice rfl _ (k0_off1_wordsi8 t1 t2)).reshape _ _) ((B.hstg.wordExact_slice rfl _ wordsi8_S1x128x2880_S1x128x2880_0_0_0).reshape _ _))
  Prog.lift (.waitDma2 (cell B 1 inb_S7_S1_1) (scaleM B t1 t2) (sstgM B) ((View.wordExact_bits rfl).reshape _ _) ((View.wordExact_bits rfl).reshape _ _))

/-- The chunk's scales rounded and transposed. -/
def scales : P F PUnit := do
  let v ← ld3 B.sstg 0 0 128 90 (by omega) (by omega) (by omega) (by omega)
  st3 B.scd 0 0 90 128 (by omega) (by omega) (by omega) (by omega) (ok3f (by omega) (by omega))
    (extf .f32 (truncf .bf16 (transpose S90x128 [1, 0] v transposes_S128x90_p1_0_S90x128) bitsLt_bf16_f32 : FVec F S90x128 .bf16) bitsLt_bf16_f32)

/-- One chunk of 128 rows of the matrix: both layouts of its values. -/
def chunk (t1 : Fin k0_t1_loop.trips) (t2 : Fin k0_t2_loop.trips) (s : ℕ) (hs : s + 128 ≤ 1536) (hs2 : 2 ∣ s) : P F PUnit := do
  copyIn B t1 t2
  scales B
  forN 22 (tBlock B s hs)
  tLast B s hs
  forN 22 (nBlock B s hs hs2)
  nLast B s hs hs2

/-- The chunk's first row, as the program computes it. -/
abbrev chunkOff (t2 : Fin k0_t2_loop.trips) : ℕ :=
  (Scalar.indexCast (Scalar.muli (Scf.iv 0#32 1#32 t2) 128#32)).toNat

/-- The columns `256 n` and up of the product of a wide matrix with the transposed matrix: a sum
    over the columns of the wide matrix, 256 at a time, the last 64 at the end. -/
def yAcc (lhs : Memref sig .tc .vmem S128x2880 .bf16) (n : ℕ) (hn : n < 6) : P F (FVec F S128x256 .f32) := do
  let a ← sumN 10 fun k hk => do
    let l ← ld2 lhs 0 (256 * k) 128 256 (by omega) (by omega) (by omega) (by omega)
    let r ← ld3 B.at' (256 * k) (256 * n) 256 256 (by omega) (by omega) (by omega) (by omega)
    pure (matmul dot_S128x256_S256x256_S128x256_1_0_0_1_n_n none l r (constant S128x256 .f32 0x00000000#32))
  let l ← ld2 lhs 0 2816 128 64 (by omega) (by omega) (by omega) (by omega)
  let r ← ld3 B.at' 2816 (256 * n) 64 256 (by omega) (by omega) (by omega) (by omega)
  pure (addf a (matmul dot_S128x64_S64x256_S128x256_1_0_0_1_n_n none l r (constant S128x256 .f32 0x00000000#32)))

/-- A value in three parts: what a rounding keeps, what a rounding of the rest keeps, the rest rounded. -/
def hiP {s : Shape} (x : FVec F s .f32) : FVec F s .bf16 := truncf .bf16 x bitsLt_bf16_f32
def res1 {s : Shape} (x : FVec F s .f32) : FVec F s .f32 := subf x (extf .f32 (hiP x) bitsLt_bf16_f32)
def midP {s : Shape} (x : FVec F s .f32) : FVec F s .bf16 := truncf .bf16 (res1 x) bitsLt_bf16_f32
def loP {s : Shape} (x : FVec F s .f32) : FVec F s .bf16 :=
  truncf .bf16 (subf (res1 x) (extf .f32 (midP x) bitsLt_bf16_f32)) bitsLt_bf16_f32

/-- A tile of the wide product, split in three. -/
def yTile (lhs : Memref sig .tc .vmem S128x2880 .bf16) (n : ℕ) (hn : n < 6) : P F PUnit := do
  let a ← yAcc B lhs n hn
  st3 B.yc 0 (256 * n) 128 256 (by omega) (by omega) (by omega) (by omega) (ok3 B.hyc (by omega) (by omega) (by omega) (by omega)) (loP a)
  st3 B.yc 128 (256 * n) 128 256 (by omega) (by omega) (by omega) (by omega) (ok3 B.hyc (by omega) (by omega) (by omega) (by omega)) (hiP a)
  st3 B.yc 256 (256 * n) 128 256 (by omega) (by omega) (by omega) (by omega) (ok3 B.hyc (by omega) (by omega) (by omega) (by omega)) (midP a)

/-- One tile of the Gram products: the tile's large product and its small one. -/
def gTile (n : ℕ) (hn : n < 6) : P F (FVec F S256x256 .f32 × FVec F S128x128 .f32) := do
  let v ← ld3 B.yc 128 (256 * n) 256 256 (by omega) (by omega) (by omega) (by omega)
  let l ← ld3 B.yc 0 (256 * n) 128 256 (by omega) (by omega) (by omega) (by omega)
  pure (matmul dot_S256x256_S256x256_S256x256_1_1_0_0_n_n none v v (constant S256x256 .f32 0x00000000#32),
    matmul dot_S128x256_S128x256_S128x128_1_1_0_0_n_n none (extractStridedSlice S128x256 ![0, 0] v slices_S256x256_o0_0_S128x256) l
      (constant S128x128 .f32 0x00000000#32))

/-- Both sums over the tiles `0, …, n`. -/
def gAcc : (n : ℕ) → n < 6 → P F (FVec F S256x256 .f32 × FVec F S128x128 .f32)
  | 0, h => gTile B 0 h
  | n + 1, h => do
    let a ← gAcc n (Nat.lt_of_succ_lt h)
    let b ← gTile B (n + 1) h
    pure (addf a.1 b.1, addf a.2 b.2)

/-- The Gram matrix out of the two sums. -/
def gOut (big : FVec F S256x256 .f32) (small : FVec F S128x128 .f32) : FVec F S128x128 .f32 :=
  addf
    (addf
      (addf (extractStridedSlice S128x128 ![128, 0] big slices_S256x256_o128_0_S128x128)
        (extractStridedSlice S128x128 ![0, 128] big slices_S256x256_o0_128_S128x128))
      (addf (extractStridedSlice S128x128 ![128, 128] big slices_S256x256_o128_128_S128x128)
        (addf small (transpose S128x128 [1, 0] small transposes_S128x128_p1_0_S128x128))))
    (extractStridedSlice S128x128 ![0, 0] big slices_S256x256_o0_0_S128x128)

def gram : P F PUnit := do
  let a ← gAcc B 5 (by omega)
  st2 B.gm 0 0 128 128 (by omega) (by omega) (by omega) (by omega) (ok2f (by omega) (by omega)) (gOut a.1 a.2)

/-- The Gram matrix without its padding, and where it and the given factor lie in the arrays. -/
abbrev gmM : Memref sig .tc .vmem S120x120 .f32 :=
  B.gm.slice (Rect.unit (s := S128x128) ![0, 0] S120x120.size inb_S128x128_S120x120_0_0) (fun _ => rfl)
abbrev gM (off : Fin 4 → ℕ) (h : ∀ a, off a + S1x1x120x120.size a ≤ S6x3x120x120.size a) : Memref sig .tc .hbm S120x120 .f32 :=
  (B.g.slice (Rect.unit (s := S6x3x120x120) off S1x1x120x120.size h) (fun _ => rfl)).squeeze S120x120 squeezes_S1x1x120x120_S120x120
abbrev tinvM (off : Fin 4 → ℕ) (h : ∀ a, off a + S1x1x128x128.size a ≤ S6x3x128x128.size a) : Memref sig .tc .hbm S128x128 .f32 :=
  (B.tinv.slice (Rect.unit (s := S6x3x128x128) off S1x1x128x128.size h) (fun _ => rfl)).squeeze S128x128 squeezes_S1x1x128x128_S128x128

/-- Copy the Gram matrix out. -/
def copyG (off : Fin 4 → ℕ) (h : ∀ a, off a + S1x1x120x120.size a ≤ S6x3x120x120.size a) : P F PUnit := do
  Prog.lift (.enqueueDma (gmM B) (.here (gM B off h)) (.dma (cell B 5 inb_S7_S1_5)) (View.wordExact_bits rfl) ((View.wordExact_bits rfl).reshape _ _) ⟨Or.inl rfl, trivial⟩)
  Prog.lift (.waitDma2 (cell B 5 inb_S7_S1_5) (gmM B) (gM B off h) (View.wordExact_bits rfl) ((View.wordExact_bits rfl).reshape _ _))

/-- Copy the factor in. -/
def copyT (off : Fin 4 → ℕ) (h : ∀ a, off a + S1x1x128x128.size a ≤ S6x3x128x128.size a) : P F PUnit := do
  Prog.lift (.enqueueDma (tinvM B off h) (.here B.tm) (.dma (cell B 6 inb_S7_S1_6)) ((View.wordExact_bits rfl).reshape _ _) B.htm.wordExact ⟨Or.inl rfl, trivial⟩)
  Prog.lift (.waitDma2 (cell B 6 inb_S7_S1_6) (tinvM B off h) B.tm ((View.wordExact_bits rfl).reshape _ _) B.htm.wordExact)

/-- The factor with the entries above the diagonal and the rows of the padding at zero. -/
def masked (v : FVec F S128x128 .f32) : FVec F S128x128 .f32 :=
  select (ori (cmpi .sgt (iota .tc S128x128 32 [1] iota_S128x128_d1_w32) (iota .tc S128x128 32 [0] iota_S128x128_d0_w32))
      (cmpi .sge (iota .tc S128x128 32 [0] iota_S128x128_d0_w32) (broadcast S128x128 120#32)))
    (broadcast S128x128 (Scalar.ofBits .f32 0x00000000#32)) v

/-- The masked factor in three parts, laid out for the products with a split matrix. -/
def finish : P F PUnit := do
  let v ← ld2 B.tm 0 0 128 128 (by omega) (by omega) (by omega) (by omega)
  let t := masked v
  st2 B.tc 0 0 128 128 (by omega) (by omega) (by omega) (by omega) (ok2 B.htc (by omega) (by omega) (by omega) (by omega)) (hiP t)
  st2 B.tc 0 128 128 128 (by omega) (by omega) (by omega) (by omega) (ok2 B.htc (by omega) (by omega) (by omega) (by omega)) (hiP t)
  st2 B.tc 0 256 128 128 (by omega) (by omega) (by omega) (by omega) (ok2 B.htc (by omega) (by omega) (by omega) (by omega)) (midP t)
  st2 B.tc 0 384 128 128 (by omega) (by omega) (by omega) (by omega) (ok2 B.htc (by omega) (by omega) (by omega) (by omega)) (midP t)
  st2 B.tc 0 512 128 128 (by omega) (by omega) (by omega) (by omega) (ok2 B.htc (by omega) (by omega) (by omega) (by omega)) (hiP t)
  st2 B.tc 0 640 128 128 (by omega) (by omega) (by omega) (by omega) (ok2 B.htc (by omega) (by omega) (by omega) (by omega)) (loP t)

/-- One tile of the product of the factor with the split matrix. -/
def qVal (u : FVec F S256x256 .bf16) (w : FVec F S256x256 .bf16) (a b c : FVec F S128x256 .bf16) : FVec F S128x256 .bf16 :=
  truncf .bf16
    (addf
      (addf (matmul dot_S128x256_S256x256_S128x256_1_0_0_1_n_n none a w (constant S128x256 .f32 0x00000000#32))
        (matmul dot_S128x256_S256x256_S128x256_1_0_0_1_n_n none b u (constant S128x256 .f32 0x00000000#32)))
      (matmul dot_S128x256_S256x256_S128x256_1_0_0_1_n_n none c u (constant S128x256 .f32 0x00000000#32)) : FVec F S128x256 .f32)
    bitsLt_bf16_f32

def qTile (n : ℕ) (hn : n < 6) : P F PUnit := do
  let u ← ld3 B.yc 128 (256 * n) 256 256 (by omega) (by omega) (by omega) (by omega)
  let w ← ld3 B.yc 0 (256 * n) 256 256 (by omega) (by omega) (by omega) (by omega)
  let a ← ld2 B.tc 0 512 128 256 (by omega) (by omega) (by omega) (by omega)
  let b ← ld2 B.tc 0 256 128 256 (by omega) (by omega) (by omega) (by omega)
  let c ← ld2 B.tc 0 0 128 256 (by omega) (by omega) (by omega) (by omega)
  st2 B.qt 0 (256 * n) 128 256 (by omega) (by omega) (by omega) (by omega) (ok2 B.hqt (by omega) (by omega) (by omega) (by omega)) (qVal u w a b c)
  st2 B.qst (256 * n) 0 256 120 (by omega) (by omega) (by omega) (by omega) (ok2 B.hqst (by omega) (by omega) (by omega) (by omega))
    (extractStridedSlice S256x120 ![0, 0] (transpose S256x128 [1, 0] (qVal u w a b c) transposes_S128x256_p1_0_S256x128) slices_S256x128_o0_0_S256x120)

/-- Where a batch's factor lies in a result. -/
abbrev qM (m : Memref sig .tc .hbm S6x1536x120 .bf16) (t1 : Fin k0_t1_loop.trips) : Memref sig .tc .hbm S1536x120 .bf16 :=
  (m.slice (Rect.unit (s := S6x1536x120) (k0_off231 t1) S1x1536x120.size (k0_off231_inb t1)) (fun _ => rfl)).squeeze S1536x120 squeezes_S1x1536x120_S1536x120

def copyQ (m : Memref sig .tc .hbm S6x1536x120 .bf16) (hm : m.IsWhole) (t1 : Fin k0_t1_loop.trips) : P F PUnit := do
  Prog.lift (.enqueueDma B.qst (.here (qM m t1)) (.dma (cell B 3 inb_S7_S1_3)) B.hqst.wordExact ((hm.wordExact_slice rfl _ (k0_off231_wordsbf16 t1)).reshape _ _) ⟨Or.inl rfl, trivial⟩)
  Prog.lift (.waitDma2 (cell B 3 inb_S7_S1_3) B.qst (qM m t1) B.hqst.wordExact ((hm.wordExact_slice rfl _ (k0_off231_wordsbf16 t1)).reshape _ _))

/-- `w` columns from column `c` of the product of the factor with the matrix, 256 rows at a time. -/
def wAcc (c w : ℕ) (hc : c + w ≤ 2880) (hw : 0 < w) (d : DotDims (Mx 128 256) (Mx 256 w) (Mx 128 w)) : P F (FVec F (Mx 128 w) .f32) :=
  sumN 5 fun k hk => do
    let l ← ld2 B.qt 0 (256 * k) 128 256 (by omega) (by omega) (by omega) (by omega)
    let r ← ld3 B.an (256 * k) c 256 w (by omega) (by omega) (by omega) (by omega)
    pure (matmul d none l r (constant (Mx 128 w) .f32 0x00000000#32))

/-- A tile of that product, rounded. -/
def wTile (c w : ℕ) (hc : c + w ≤ 2880) (hw : 0 < w) (d : DotDims (Mx 128 256) (Mx 256 w) (Mx 128 w)) : P F PUnit := do
  let a ← wAcc B c w hc hw d
  st2 B.wt 0 c 128 w (by omega) (by omega) (by omega) (by omega) (ok2 B.hwt (by omega) (by omega) (by omega) (by omega)) (hiP a)

/-- A tile of the last product, without the padding. -/
def bTile (c w : ℕ) (hc : c + w ≤ 2880) (hw : 0 < w) (d : DotDims (Mx 128 256) (Mx 256 w) (Mx 128 w)) : P F PUnit := do
  let a ← wAcc B c w hc hw d
  st2 B.bst 0 c 120 w (by omega) (by omega) (by omega) (by omega) (ok2f (by omega) (by omega))
    (extractStridedSlice (Mx 120 w) ![0, 0] a (slicesM 0 (by omega) (by omega)))

def wAll : P F PUnit := do
  forN 11 fun n hn => wTile B (256 * n) 256 (by omega) (by omega) dot_S128x256_S256x256_S128x256_1_0_0_1_n_n
  wTile B 2816 64 (by omega) (by omega) dot_S128x256_S256x64_S128x64_1_0_0_1_n_n

def bAll : P F PUnit := do
  forN 11 fun n hn => bTile B (256 * n) 256 (by omega) (by omega) dot_S128x256_S256x256_S128x256_1_0_0_1_n_n
  bTile B 2816 64 (by omega) (by omega) dot_S128x256_S256x64_S128x64_1_0_0_1_n_n

/-- Where a batch's last product lies in its result, and the copy there. -/
abbrev bM (t1 : Fin k0_t1_loop.trips) : Memref sig .tc .hbm S120x2880 .f32 :=
  (B.b.slice (Rect.unit (s := S6x120x2880) (k0_off236 t1) S1x120x2880.size (k0_off236_inb t1)) (fun _ => rfl)).squeeze S120x2880 squeezes_S1x120x2880_S120x2880

def copyB (t1 : Fin k0_t1_loop.trips) : P F PUnit := do
  Prog.lift (.enqueueDma B.bst (.here (bM B t1)) (.dma (cell B 4 inb_S7_S1_4)) B.hbst.wordExact ((View.wordExact_bits rfl).reshape _ _) ⟨Or.inl rfl, trivial⟩)
  Prog.lift (.waitDma2 (cell B 4 inb_S7_S1_4) B.bst (bM B t1) B.hbst.wordExact ((View.wordExact_bits rfl).reshape _ _))

/-- One round: the wide product with `lhs`, its Gram matrix, the product with the given factor. -/
def round (lhs : Memref sig .tc .vmem S128x2880 .bf16)
    (og : Fin 4 → ℕ) (hg : ∀ a, og a + S1x1x120x120.size a ≤ S6x3x120x120.size a)
    (ot : Fin 4 → ℕ) (ht : ∀ a, ot a + S1x1x128x128.size a ≤ S6x3x128x128.size a)
    (m : Memref sig .tc .hbm S6x1536x120 .bf16) (hm : m.IsWhole) (t1 : Fin k0_t1_loop.trips) : P F PUnit := do
  forN 6 (yTile B lhs)
  gram B
  copyG B og hg
  copyT B ot ht
  finish B
  forN 6 (qTile B)
  copyQ B m hm t1

/-- All rounds of a batch. -/
def rounds (t1 : Fin k0_t1_loop.trips) : P F PUnit := do
  round B B.omt (k0_off229 t1) (k0_off229_inb t1) (k0_off230 t1) (k0_off230_inb t1) B.q0 B.hq0 t1
  wAll B
  round B B.wt (k0_off232 t1) (k0_off232_inb t1) (k0_off233 t1) (k0_off233_inb t1) B.q1 B.hq1 t1
  wAll B
  round B B.wt (k0_off234 t1) (k0_off234_inb t1) (k0_off235 t1) (k0_off235_inb t1) B.q B.hq t1
  bAll B
  copyB B t1

/-- The random matrix copied in, transposed and padded with zero rows. -/
def prologue : P F PUnit := do
  Prog.lift (.enqueueDma B.omega (.here B.om) (.dma (cell B 2 inb_S7_S1_2)) B.homega.wordExact B.hom.wordExact ⟨Or.inl rfl, trivial⟩)
  st2 B.tm 0 0 128 128 (by omega) (by omega) (by omega) (by omega) (ok2f (by omega) (by omega)) (broadcast S128x128 (Scalar.ofBits .f32 0x00000000#32))
  Prog.lift (.waitDma2 (cell B 2 inb_S7_S1_2) B.omega B.om B.homega.wordExact B.hom.wordExact)
  forN 22 fun k hk => do
    let v ← ld2 B.om (128 * k) 0 128 120 (by omega) (by omega) (by omega) (by omega)
    st2 B.omt 0 (128 * k) 120 128 (by omega) (by omega) (by omega) (by omega) (ok2 B.homt (by omega) (by omega) (by omega) (by omega))
      (transpose S120x128 [1, 0] v transposes_S128x120_p1_0_S120x128)
  let v ← ld2 B.om 2816 0 64 120 (by omega) (by omega) (by omega) (by omega)
  st2 B.omt 0 2816 120 64 (by omega) (by omega) (by omega) (by omega) (ok2 B.homt (by omega) (by omega) (by omega) (by omega))
    (transpose S120x64 [1, 0] v (transposesM 64 120))
  st2 B.omt 120 0 8 2880 (by omega) (by omega) (by omega) (by omega) (ok2 B.homt (by omega) (by omega) (by omega) (by omega))
    (broadcast S8x2880 (Scalar.ofBits .bf16 0x0000#16))

/-- The whole body. -/
def body (hs : ∀ t2, chunkOff t2 + 128 ≤ 1536) (hs2 : ∀ t2, 2 ∣ chunkOff t2) : P F PUnit := do
  prologue B
  Scf.Loop.for k0_t1_loop k0_t1_ok ⟨⟩ fun t1 _ => do
    Scf.Loop.for k0_t2_loop k0_t2_ok ⟨⟩ fun t2 _ => chunk B t1 t2 (chunkOff t2) (hs t2) (hs2 t2)
    rounds B t1
  pure ⟨⟩

end Cert.KernelIdeal.Hand

end
-- ==== Proof.BodyEq.lean ====
/- The printed body is the sequence of jobs of `Jobs.lean`. -/
module

public import proofs.«01_k».proof.Proof.Jobs
public import Idealize.ShloMosaic.Lib.Pipeline.Regions

@[expose] public section

noncomputable section

namespace Cert.KernelIdeal.Hand

open Idealize.ShloMosaic Idealize.SL.Sem
open Facts₀ Facts

variable {F : FTy → Type} [FloatOps F] [Facts] (B : Bufs)

/-- A batch: the chunks of its matrix, then its rounds. -/
theorem batch_eq (t1 : Fin k0_t1_loop.trips) (hs : ∀ t2, chunkOff t2 + 128 ≤ 1536) (hs2 : ∀ t2, 2 ∣ chunkOff t2) : (do
    let v1855 ← k0_part164 (F := F) B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem 0#32 1#32 t1
    let v3416 ← k0_part165 B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem t1 v1855
    Prog.lift (.store B.bst (Rect.unit (s := S120x2880) ![0, 2816] S120x64.size inb_S120x2880_S120x64_0_2816) (shapeCast S120x64 v3416 shapeCasts_S120x64_S120x64) Finset.univ (View.stores_vmem_bits_univ h_S120x64 rfl) (.inl rfl))
    copyB B t1) = (do
    Scf.Loop.for k0_t2_loop k0_t2_ok ⟨⟩ fun t2 _ => chunk B t1 t2 (chunkOff t2) (hs t2) (hs2 t2)
    rounds B t1) := by
  delta k0_part164 k0_part49
  refine (Prog.bind_assoc _ _ _).trans ?_
  refine (Prog.bind_assoc _ _ _).trans ?_
  refine congr (congrArg Prog.bind ?_) (funext fun _ => ?_)
  · chain_rfl
  · chain_rfl

/-- Both bodies unfold to the same operations in the same order. -/
theorem body_eq (hs : ∀ t2, chunkOff t2 + 128 ≤ 1536) (hs2 : ∀ t2, 2 ∣ chunkOff t2) :
    cc0_rangefinder (F := F) B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem = body B hs hs2 := by
  have h : cc0_rangefinder (F := F) B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem = (do
      prologue B
      Scf.Loop.for k0_t1_loop k0_t1_ok ⟨⟩ fun t1 _ => do
        let v1855 ← k0_part164 (F := F) B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem 0#32 1#32 t1
        let v3416 ← k0_part165 B.codes B.hcodes B.scale B.hscale B.omega B.homega B.tinv B.htinv B.q B.hq B.b B.hb B.q0 B.hq0 B.q1 B.hq1 B.g B.hg B.at' B.hat B.an B.han B.stg B.hstg B.sstg B.hsstg B.scd B.hscd B.om B.hom B.omt B.homt B.wt B.hwt B.qt B.hqt B.yc B.hyc B.gm B.hgm B.tm B.htm B.tc B.htc B.qst B.hqst B.bst B.hbst B.sem t1 v1855
        Prog.lift (.store B.bst (Rect.unit (s := S120x2880) ![0, 2816] S120x64.size inb_S120x2880_S120x64_0_2816) (shapeCast S120x64 v3416 shapeCasts_S120x64_S120x64) Finset.univ (View.stores_vmem_bits_univ h_S120x64 rfl) (.inl rfl))
        copyB B t1
      pure ⟨⟩) := by
    chain_rfl
  rw [h]
  simp only [batch_eq B _ hs hs2]
  rfl

end Cert.KernelIdeal.Hand

end
-- ==== Proof.Wp.lean ====
/- Rules for the jobs' loads, stores, loops and copies, over one assertion that holds every buffer
   of the kernel at named contents. -/
module

public import proofs.«01_k».proof.Proof.Jobs
public import Idealize.ShloMosaic.Lib.VecWindow
public import Idealize.ShloMosaic.Lib.ValueLayout
public import Idealize.ShloMosaic.Lib.Transfers
public import Idealize.ShloMosaic.Lib.Scf
public import Idealize.ShloMosaic.Lib.Pipeline.Frame
public import Idealize.ShloMosaic.Lib.Tactic

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

local notation "𝕄" => MT nD τ sig Unit (Elt F) ℕ (Pipeline.UD sig nD τ) ℕ

/-- What the kernel's core may assume and must leave, for a part of the body. -/
abbrev Wp (c : Dev nD) {α : Type} (p : P F α) (Q : α → sProp 𝕄) : sProp 𝕄 :=
  wp frame (wpE (defs₀ (F := F)) Variants.none (c : Thread nD τ) none) Set.univ p Q

/-! ### Copies -/

section copies
variable (c : Dev nD) {sp sp' : Space} {s s' : Shape} {e : EltTy}

/-- A part `v` of the memref `m`, to copy from: what the copy reads is `rd` of what `m` holds. -/
def Src (m : Memref sig .tc sp s e) (v : Memref sig .tc sp s' e) (rd : (s.Idx → Elt F e) → s'.Idx → Elt F e) : Prop :=
  ∀ X, (owns (c : Thread nD τ) m fullShare X : sProp 𝕄) ⊢
    iprop(∃ f, ⌜v.view.read (Elt F) f = rd X⌝ ∗ (v.view.loc (c : Thread nD τ) ↦[v.view.set]{fullShare} f)
      ∗ ((v.view.loc (c : Thread nD τ) ↦[v.view.set]{fullShare} f) -∗ owns (c : Thread nD τ) m fullShare X))

/-- A part `v` of the memref `m`, to copy to: after a copy of `w`, `m` holds `wr X w` where it held `X`. -/
def Dst (m : Memref sig .tc sp s e) (v : Memref sig .tc sp s' e)
    (wr : (s.Idx → Elt F e) → (s'.Idx → Elt F e) → s.Idx → Elt F e) : Prop :=
  ∀ X, (owns (c : Thread nD τ) m fullShare X : sProp 𝕄) ⊢
    iprop(∃ f, (v.view.loc (c : Thread nD τ) ↦[v.view.set]{fullShare} f)
      ∗ (∀ w, (v.view.loc (c : Thread nD τ) ↦[v.view.set]{fullShare} v.view.write (Elt F) f w Finset.univ)
        -∗ owns (c : Thread nD τ) m fullShare (wr X w)))

theorem src_whole (m : Memref sig .tc sp s e) : Src (F := F) c m m (fun X => X) := by
  intro X
  unfold owns
  iintro ⟨%f, %hf, H⟩
  iexists f
  isplitr; · ipureintro; exact hf
  isplitl [H]; · iexact H
  iintro H
  iexists f
  isplitr; · ipureintro; exact hf
  iexact H

theorem dst_whole (m : Memref sig .tc sp s e) : Dst (F := F) c m m (fun _ w => w) := by
  intro X
  unfold owns
  iintro ⟨%f, %hf, H⟩
  iexists f
  isplitl [H]; · iexact H
  iintro %w H
  iexists _
  isplitr; swap; · iexact H
  ipureintro; exact View.read_write_univ _ _

theorem src_slice (m : Memref sig .tc sp s e) (r : Rect s) (hr : ∀ a, r.stride a = 1) :
    Src (F := F) c m (m.slice r hr) (fun X y => X (r.emb y)) := by
  intro X
  unfold owns
  iintro ⟨%f, %hf, H⟩
  have hsub : (m.slice r hr).view.set ⊆ m.view.set := by
    intro i hi
    obtain ⟨y, -, rfl⟩ := Finset.mem_map.mp hi
    exact Finset.mem_map.mpr ⟨_, Finset.mem_univ _, rfl⟩
  ihave H := ((pointsTo_split_subset (q := fullShare) (f := f) hsub).1) $$ H
  icases H with ⟨H1, H2⟩
  iexists f
  isplitr; · ipureintro; subst hf; rfl
  isplitl [H1]; · iexact H1
  iintro H1
  iexists f
  isplitr; · ipureintro; exact hf
  iapply ((pointsTo_split_subset (q := fullShare) (f := f) hsub).2)
  isplitl [H1]; · iexact H1
  iexact H2

theorem sub_squeeze (m : Memref sig .tc sp s e) (r : Rect s) (hr : ∀ a, r.stride a = 1) (hq : r.shape.Squeezes s') :
    ((m.slice r hr).squeeze s' hq).view.set ⊆ m.view.set := by
  intro i hi
  obtain ⟨y, -, rfl⟩ := Finset.mem_map.mp hi
  exact Finset.mem_map.mpr ⟨_, Finset.mem_univ _, rfl⟩

theorem src_squeeze (m : Memref sig .tc sp s e) (r : Rect s) (hr : ∀ a, r.stride a = 1) (hq : r.shape.Squeezes s') :
    Src (F := F) c m ((m.slice r hr).squeeze s' hq) (fun X y => X (r.emb (Shape.reshapeEquiv hq.numel_eq y))) := by
  intro X
  unfold owns
  iintro ⟨%f, %hf, H⟩
  ihave H := ((pointsTo_split_subset (q := fullShare) (f := f) (sub_squeeze m r hr hq)).1) $$ H
  icases H with ⟨H1, H2⟩
  iexists f
  isplitr; · ipureintro; subst hf; rfl
  isplitl [H1]; · iexact H1
  iintro H1
  iexists f
  isplitr; · ipureintro; exact hf
  iapply ((pointsTo_split_subset (q := fullShare) (f := f) (sub_squeeze m r hr hq)).2)
  isplitl [H1]; · iexact H1
  iexact H2

open Classical in
theorem dst_squeeze (m : Memref sig .tc sp s e) (r : Rect s) (hr : ∀ a, r.stride a = 1) (hq : r.shape.Squeezes s') :
    Dst (F := F) c m ((m.slice r hr).squeeze s' hq)
      (fun X w y => if h : ∃ z, r.emb (Shape.reshapeEquiv hq.numel_eq z) = y then w h.choose else X y) := by
  intro X
  unfold owns
  iintro ⟨%f, %hf, H⟩
  ihave H := ((pointsTo_split_subset (q := fullShare) (f := f) (sub_squeeze m r hr hq)).1) $$ H
  icases H with ⟨H1, H2⟩
  iexists f
  isplitl [H1]; · iexact H1
  iintro %w H1
  iexists ((m.slice r hr).squeeze s' hq).view.write (Elt F) f w Finset.univ
  isplitr
  · ipureintro
    funext y
    beta_reduce
    by_cases h : ∃ z, r.emb (Shape.reshapeEquiv hq.numel_eq z) = y
    · rw [dif_pos h]
      have hz := h.choose_spec
      generalize h.choose = z at hz ⊢
      subst hz
      exact congrFun (View.read_write_univ (v := ((m.slice r hr).squeeze s' hq).view) f w) z
    · rw [dif_neg h]
      subst hf
      have hn : m.view.emb y ∉ ((m.slice r hr).squeeze s' hq).view.setOn Finset.univ := by
        intro hi
        obtain ⟨z, -, hz⟩ := Finset.mem_map.mp hi
        exact h ⟨z, m.view.emb.injective hz⟩
      have := View.write_of_not_mem (v := ((m.slice r hr).squeeze s' hq).view) f w Finset.univ hn
      exact congrArg (_root_.cast (congrArg (Elt F) m.view.elt_eq)) this
  iapply ((pointsTo_split_subset (q := fullShare) (sub_squeeze m r hr hq)).2)
  isplitl [H1]; · iexact H1
  iapply (Entails.of_eq (pointsTo_congr (f := f) (g := ((m.slice r hr).squeeze s' hq).view.write (Elt F) f w Finset.univ) (fun i hi => by
    refine (View.write_of_not_mem (v := ((m.slice r hr).squeeze s' hq).view) f w Finset.univ ?_).symm
    exact (Finset.mem_sdiff.mp hi).2)))
  iexact H2

end copies

/-! ### Loads, stores and copies of a held buffer -/

section steps
variable (c : Dev nD) {s s' : Shape} {e : EltTy}

theorem wp_ldO {m : Memref sig .tc .vmem s e} {r : Rect s} {hl : m.view.LoadsAt r.toLoadRect}
    {X : s.Idx → Elt F e} {Q : (r.shape.Idx → Elt F e) → sProp 𝕄} :
    iprop(owns (c : Thread nD τ) m fullShare X
      ∗ (owns (c : Thread nD τ) m fullShare X -∗ Q (fun y => X (r.emb y))))
    ⊢ Wp (F := F) c (Prog.lift (.load m r.toLoadRect hl)) Q := by
  unfold owns Prog.lift
  iintro ⟨⟨%f, %hf, H⟩, HQ⟩
  iapply (wp_load Variants.none (c : Thread nD τ) none Set.univ (S := m.view.set) (q := fullShare) (f := f)
    (Finset.map_subset_map.mpr (Finset.subset_univ _))) $$ H
  iintro H
  rw [wp_ret]
  imodintro
  have e : m.view.readAt (Elt F) r.toLoadRect f = fun y => X (r.emb y) := by subst hf; rfl
  rw [e]
  iapply HQ
  iexists f
  isplitr; · ipureintro; exact hf
  iexact H

theorem wp_stO {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm}
    {X : s.Idx → Elt F e} {Q : PUnit → sProp 𝕄} :
    iprop(owns (c : Thread nD τ) m fullShare X
      ∗ (owns (c : Thread nD τ) m fullShare (VecWindow.put X off size w) -∗ Q ⟨⟩))
    ⊢ Wp (F := F) c (Prog.lift (.store m (Rect.unit off size inb) w Finset.univ hx hm)) Q := by
  unfold owns Prog.lift
  iintro ⟨⟨%f, %hf, H⟩, HQ⟩
  iapply (wp_store_writes₀ Variants.none (c : Thread nD τ) none Set.univ (S := m.view.set) (f := f) (by
    intro i hi
    obtain ⟨y, -, rfl⟩ := Finset.mem_map.mp hi
    exact Finset.mem_map.mpr ⟨_, Finset.mem_univ _, rfl⟩)) $$ H
  iintro H
  rw [wp_ret]
  imodintro
  iapply HQ
  iexists _
  isplitr; swap; · iexact H
  ipureintro
  subst hf
  exact View.read_writes_cons_put m.view f inb w [] rfl

end steps

section copysteps
variable (c : Dev nD) {sp sp' : Space} {s s₁ s₂ : Shape} {e : EltTy}

/-- A copy in flight of what `m` holds at `X` onto `n`, which held `Y`. -/
def Fly (m : Memref sig .tc sp s e) (v : Memref sig .tc sp s₁ e) (rd : (s.Idx → Elt F e) → s₁.Idx → Elt F e)
    (n : Memref sig .tc sp' s₂ e) (u : Memref sig .tc sp' s₁ e)
    (wr : (s₂.Idx → Elt F e) → (s₁.Idx → Elt F e) → s₂.Idx → Elt F e)
    (k : DmaSem sig) (X : s.Idx → Elt F e) (Y : s₂.Idx → Elt F e) : sProp 𝕄 :=
  iprop(∃ D R : sProp 𝕄, ⌜iprop(D ∗ R) ⊢ iprop(owns (c : Thread nD τ) m fullShare X ∗ owns (c : Thread nD τ) n fullShare (wr Y (rd X)))⌝
    ∗ R ∗ Flight (countersEmb (U := Pipeline.UD sig nD τ)) (c : Thread nD τ) (.dma k) () u.view.dmaCredit D)

variable {m : Memref sig .tc sp s e} {v : Memref sig .tc sp s₁ e} {rd : (s.Idx → Elt F e) → s₁.Idx → Elt F e}
    {n : Memref sig .tc sp' s₂ e} {u : Memref sig .tc sp' s₁ e}
    {wr : (s₂.Idx → Elt F e) → (s₁.Idx → Elt F e) → s₂.Idx → Elt F e}
    {k : DmaSem sig} {X : s.Idx → Elt F e} {Y : s₂.Idx → Elt F e}

theorem wp_startO (hv : Src (F := F) c m v rd) (hu : Dst (F := F) c n u wr) (hpos : 0 < u.view.dmaCredit) {Q : PUnit → sProp 𝕄} {h1 h2 h3} :
    iprop(owns (c : Thread nD τ) m fullShare X ∗ owns (c : Thread nD τ) n fullShare Y ∗ semVal ((c : Thread nD τ), SemLoc.dma k) 0
      ∗ (Fly c m v rd n u wr k X Y -∗ Q ⟨⟩))
    ⊢ Wp (F := F) c (Prog.lift (.enqueueDma v (.here u) (.dma k) h1 h2 h3)) Q := by
  unfold Prog.lift Fly
  iintro ⟨Hm, Hn, Hk, HQ⟩
  ihave Hm := (hv X) $$ Hm
  ihave Hn := (hu Y) $$ Hn
  icases Hm with ⟨%f, %hf, Hf, Hm⟩
  icases Hn with ⟨%g, Hg, Hn⟩
  iapply (wp_dmaLocal (countersEmb (U := Pipeline.UD sig nD τ)) Variants.none (c : Thread nD τ) none (src := v) (dst := u) (sm := .dma k)
    (q := fullShare) (fs := f) (Sd := u.view.set) (fd := g) () u.view.dmaCredit rfl hpos (Finset.Subset.refl _)) $$ [Hf Hg Hk]
  · isplitl [Hf]; · iexact Hf
    isplitl [Hg]; · iexact Hg
    iexact Hk
  iintro Hfl
  rw [wp_ret]
  imodintro
  iapply HQ
  iexists iprop((u.view.loc (c : Thread nD τ) ↦[u.view.set]{fullShare} (u.view.write (Elt F) g (v.view.read (Elt F) f) Finset.univ))
    ∗ (v.view.loc (c : Thread nD τ) ↦[v.view.set]{fullShare} f))
  iexists iprop(((v.view.loc (c : Thread nD τ) ↦[v.view.set]{fullShare} f) -∗ owns (c : Thread nD τ) m fullShare X)
    ∗ (∀ w, (u.view.loc (c : Thread nD τ) ↦[u.view.set]{fullShare} u.view.write (Elt F) g w Finset.univ)
        -∗ owns (c : Thread nD τ) n fullShare (wr Y w)))
  isplitr
  · ipureintro
    iintro ⟨⟨Hu, Hv⟩, Hm, Hn⟩
    isplitl [Hv Hm]
    · iapply Hm; iexact Hv
    · rw [← hf]
      iapply Hn; iexact Hu
  isplitl [Hm Hn]
  · isplitl [Hm]; · iexact Hm
    iexact Hn
  iexact Hfl

theorem wp_endO {W : Waits sig Unit} {Q : PUnit → sProp 𝕄} {h1 h2} :
    iprop(Fly c m v rd n u wr k X Y ∗ owes (c : Thread nD τ) 0 W
      ∗ ((∃ W', owes (c : Thread nD τ) 0 W') -∗ semVal ((c : Thread nD τ), SemLoc.dma k) 0 -∗ owns (c : Thread nD τ) m fullShare X
        -∗ owns (c : Thread nD τ) n fullShare (wr Y (rd X)) -∗ Q ⟨⟩))
    ⊢ Wp (F := F) c (Prog.lift (.waitDma2 k v u h1 h2)) Q := by
  unfold Prog.lift Fly
  iintro ⟨⟨%D, %R, %hD, HR, Hf⟩, Ho, HQ⟩
  iapply (wp_waitLocal (countersEmb (U := Pipeline.UD sig nD τ)) Variants.none (c : Thread nD τ) none (dstw := u) (srcw := v) () rfl) $$ [Hf Ho]
  · isplitl [Hf]; · iexact Hf
    iexact Ho
  iintro ⟨HD, Hk, Ho⟩
  rw [wp_ret]
  imodintro
  ihave HD := hD $$ [HD HR]
  · isplitl [HD]; · iexact HD
    iexact HR
  icases HD with ⟨Hm, Hn⟩
  iapply HQ $$ [Ho] Hk Hm Hn
  iexists _
  iexact Ho

end copysteps

end Cert.KernelIdeal.Hand

end
-- ==== Proof.State.lean ====
/- The state of the kernel's buffers, the assertion that holds all of it, and what a part of the
   body does to it. -/
module

public import proofs.«01_k».proof.Proof.Wp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

local notation "𝕄" => MT nD τ sig Unit (Elt F) ℕ (Pipeline.UD sig nD τ) ℕ

/-- The arrays the kernel is given. -/
structure Inp (F : FTy → Type) where
  codes : S6x1536x2880.Idx → Elt F .i8
  scale : S6x1536x90.Idx → Elt F .f32
  omega : S2880x120.Idx → Elt F .bf16
  tinv : S6x3x128x128.Idx → Elt F .f32

/-- What the results and the scratch buffers hold. -/
structure St (F : FTy → Type) where
  q : S6x1536x120.Idx → Elt F .bf16
  b : S6x120x2880.Idx → Elt F .f32
  q0 : S6x1536x120.Idx → Elt F .bf16
  q1 : S6x1536x120.Idx → Elt F .bf16
  g : S6x3x120x120.Idx → Elt F .f32
  at' : S1x2880x1536.Idx → Elt F .bf16
  an : S1x1536x2880.Idx → Elt F .bf16
  stg : S1x128x2880.Idx → Elt F .i8
  sstg : S1x128x90.Idx → Elt F .f32
  scd : S1x90x128.Idx → Elt F .f32
  om : S2880x120.Idx → Elt F .bf16
  omt : S128x2880.Idx → Elt F .bf16
  wt : S128x2880.Idx → Elt F .bf16
  qt : S128x1536.Idx → Elt F .bf16
  yc : S1x384x1536.Idx → Elt F .bf16
  gm : S128x128.Idx → Elt F .f32
  tm : S128x128.Idx → Elt F .f32
  tc : S128x768.Idx → Elt F .bf16
  qst : S1536x120.Idx → Elt F .bf16
  bst : S120x2880.Idx → Elt F .f32

/-- Every buffer held whole, the inputs at `i` and the rest at `st`; every semaphore at zero. -/
def Own (B : Bufs) (c : Dev nD) (i : Inp F) (st : St F) : sProp 𝕄 :=
  iprop(
    owns (c : Thread nD τ) B.codes fullShare i.codes
    ∗ owns (c : Thread nD τ) B.scale fullShare i.scale
    ∗ owns (c : Thread nD τ) B.omega fullShare i.omega
    ∗ owns (c : Thread nD τ) B.tinv fullShare i.tinv
    ∗ owns (c : Thread nD τ) B.q fullShare st.q
    ∗ owns (c : Thread nD τ) B.b fullShare st.b
    ∗ owns (c : Thread nD τ) B.q0 fullShare st.q0
    ∗ owns (c : Thread nD τ) B.q1 fullShare st.q1
    ∗ owns (c : Thread nD τ) B.g fullShare st.g
    ∗ owns (c : Thread nD τ) B.at' fullShare st.at'
    ∗ owns (c : Thread nD τ) B.an fullShare st.an
    ∗ owns (c : Thread nD τ) B.stg fullShare st.stg
    ∗ owns (c : Thread nD τ) B.sstg fullShare st.sstg
    ∗ owns (c : Thread nD τ) B.scd fullShare st.scd
    ∗ owns (c : Thread nD τ) B.om fullShare st.om
    ∗ owns (c : Thread nD τ) B.omt fullShare st.omt
    ∗ owns (c : Thread nD τ) B.wt fullShare st.wt
    ∗ owns (c : Thread nD τ) B.qt fullShare st.qt
    ∗ owns (c : Thread nD τ) B.yc fullShare st.yc
    ∗ owns (c : Thread nD τ) B.gm fullShare st.gm
    ∗ owns (c : Thread nD τ) B.tm fullShare st.tm
    ∗ owns (c : Thread nD τ) B.tc fullShare st.tc
    ∗ owns (c : Thread nD τ) B.qst fullShare st.qst
    ∗ owns (c : Thread nD τ) B.bst fullShare st.bst
    ∗ semVal ((c : Thread nD τ), SemLoc.dma (cell B 0 inb_S7_S1_0)) 0
    ∗ semVal ((c : Thread nD τ), SemLoc.dma (cell B 1 inb_S7_S1_1)) 0
    ∗ semVal ((c : Thread nD τ), SemLoc.dma (cell B 2 inb_S7_S1_2)) 0
    ∗ semVal ((c : Thread nD τ), SemLoc.dma (cell B 3 inb_S7_S1_3)) 0
    ∗ semVal ((c : Thread nD τ), SemLoc.dma (cell B 4 inb_S7_S1_4)) 0
    ∗ semVal ((c : Thread nD τ), SemLoc.dma (cell B 5 inb_S7_S1_5)) 0
    ∗ semVal ((c : Thread nD τ), SemLoc.dma (cell B 6 inb_S7_S1_6)) 0
    ∗ (∃ W, owes (c : Thread nD τ) 0 W))

/-- The part `p` of the body, run from the state `st`, ends in a state of which `J` holds. -/
def Wps (B : Bufs) (c : Dev nD) (i : Inp F) {α : Type} (p : P F α) (J : α → St F → Prop) (st : St F) : Prop :=
  Own B c i st ⊢ Wp c p (fun x => iprop(∃ st', ⌜J x st'⌝ ∗ Own B c i st'))

section rules
variable {B : Bufs} {c : Dev nD} {i : Inp F} {α β : Type}

theorem Wps.ret {x : α} {J : α → St F → Prop} {st : St F} (h : J x st) : Wps B c i (pure x) J st := by
  unfold Wps
  show _ ⊢ wp _ _ _ (.ret x) _
  rw [wp_ret]
  iintro H
  imodintro
  iexists st
  isplitr; · ipureintro; exact h
  iexact H

theorem Wps.bind {p : P F α} {k : α → P F β} {J : β → St F → Prop} {st : St F}
    (h : Wps B c i p (fun x st' => Wps B c i (k x) J st') st) : Wps B c i (p >>= k) J st := by
  unfold Wps Hand.Wp at *
  rw [wp_bind]
  refine h.trans (wp_mono _ _ _ fun x => ?_)
  iintro ⟨%st', %hk, H⟩
  iapply hk
  iexact H

theorem Wps.mono {p : P F α} {J J' : α → St F → Prop} {st : St F} (h : Wps B c i p J st)
    (hJ : ∀ x st', J x st' → J' x st') : Wps B c i p J' st := by
  unfold Wps
  refine h.trans (wp_mono _ _ _ fun x => ?_)
  iintro ⟨%st', %hk, H⟩
  iexists st'
  isplitr; · ipureintro; exact hJ _ _ hk
  iexact H

/-- The repeated job, through the states `σ 0, …, σ n`. -/
theorem Wps.forN {n : ℕ} {f : (k : ℕ) → k < n → P F PUnit} {J : PUnit → St F → Prop} {st : St F} (σ : ℕ → St F)
    (h0 : σ 0 = st) (hstep : ∀ k hk (J' : PUnit → St F → Prop), J' ⟨⟩ (σ (k + 1)) → Wps B c i (f k hk) J' (σ k))
    (hJ : J ⟨⟩ (σ n)) : Wps B c i (forN n f) J st := by
  induction n generalizing J with
  | zero => subst h0; exact Wps.ret hJ
  | succ n ih =>
    unfold Hand.forN
    exact Wps.bind (ih (fun k hk J' h => hstep k _ J' h) (hstep n _ J hJ))

/-- The loop, by an invariant. -/
theorem Wps.loop {lb ub step : BitVec 32} {hok : Scf.OK lb ub step} {body : Fin (Scf.trips lb ub step) → PUnit → P F PUnit}
    {J : PUnit → St F → Prop} {st : St F} (I : ℕ → St F → Prop) (h0 : I 0 st)
    (hstep : ∀ k st, I k.val st → Wps B c i (body k ⟨⟩) (fun _ st' => I (k.val + 1) st') st)
    (hJ : ∀ st, I (Scf.trips lb ub step) st → J ⟨⟩ st) : Wps B c i (Scf.for lb ub step hok ⟨⟩ body) J st := by
  unfold Wps
  iintro H
  iapply (Scf.wp_for _ _ _ lb ub step hok ⟨⟩ body (fun k _ => iprop(∃ st', ⌜I k st'⌝ ∗ Own B c i st')) (fun k acc => by
    iintro ⟨%st', %hI, H⟩
    have hb := hstep k st' hI
    unfold Wps at hb
    iapply hb
    iexact H))
  isplitl [H]
  · iexists st
    isplitr; · ipureintro; exact h0
    iexact H
  iintro %acc ⟨%st', %hI, H⟩
  iexists st'
  isplitr; · ipureintro; exact hJ _ hI
  iexact H

/-- A buffer the state holds, to read. -/
def RSlot (B : Bufs) (c : Dev nD) (i : Inp F) {sp : Space} {s : Shape} {e : EltTy} (m : Memref sig .tc sp s e) (get : St F → s.Idx → Elt F e) : Prop :=
  ∀ st, Own B c i st ⊢ iprop(owns (c : Thread nD τ) m fullShare (get st) ∗ (owns (c : Thread nD τ) m fullShare (get st) -∗ Own B c i st))

/-- A buffer the state holds, to write. -/
def WSlot (B : Bufs) (c : Dev nD) (i : Inp F) {sp : Space} {s : Shape} {e : EltTy} (m : Memref sig .tc sp s e) (get : St F → s.Idx → Elt F e)
    (set : St F → (s.Idx → Elt F e) → St F) : Prop :=
  ∀ st, Own B c i st ⊢ iprop(owns (c : Thread nD τ) m fullShare (get st) ∗ ∀ X, owns (c : Thread nD τ) m fullShare X -∗ Own B c i (set st X))

theorem w_q : WSlot (F := F) B c i B.q (·.q) (fun st X => {st with q := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H4]; · iexact H4
  iintro %X H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_b : WSlot (F := F) B c i B.b (·.b) (fun st X => {st with b := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H5]; · iexact H5
  iintro %X H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_q0 : WSlot (F := F) B c i B.q0 (·.q0) (fun st X => {st with q0 := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H6]; · iexact H6
  iintro %X H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_q1 : WSlot (F := F) B c i B.q1 (·.q1) (fun st X => {st with q1 := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H7]; · iexact H7
  iintro %X H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_g : WSlot (F := F) B c i B.g (·.g) (fun st X => {st with g := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H8]; · iexact H8
  iintro %X H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_at : WSlot (F := F) B c i B.at' (·.at') (fun st X => {st with at' := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H9]; · iexact H9
  iintro %X H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_an : WSlot (F := F) B c i B.an (·.an) (fun st X => {st with an := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H10]; · iexact H10
  iintro %X H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_stg : WSlot (F := F) B c i B.stg (·.stg) (fun st X => {st with stg := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H11]; · iexact H11
  iintro %X H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_sstg : WSlot (F := F) B c i B.sstg (·.sstg) (fun st X => {st with sstg := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H12]; · iexact H12
  iintro %X H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_scd : WSlot (F := F) B c i B.scd (·.scd) (fun st X => {st with scd := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H13]; · iexact H13
  iintro %X H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_om : WSlot (F := F) B c i B.om (·.om) (fun st X => {st with om := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H14]; · iexact H14
  iintro %X H14
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_omt : WSlot (F := F) B c i B.omt (·.omt) (fun st X => {st with omt := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H15]; · iexact H15
  iintro %X H15
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_wt : WSlot (F := F) B c i B.wt (·.wt) (fun st X => {st with wt := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H16]; · iexact H16
  iintro %X H16
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_qt : WSlot (F := F) B c i B.qt (·.qt) (fun st X => {st with qt := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H17]; · iexact H17
  iintro %X H17
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_yc : WSlot (F := F) B c i B.yc (·.yc) (fun st X => {st with yc := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H18]; · iexact H18
  iintro %X H18
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_gm : WSlot (F := F) B c i B.gm (·.gm) (fun st X => {st with gm := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H19]; · iexact H19
  iintro %X H19
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_tm : WSlot (F := F) B c i B.tm (·.tm) (fun st X => {st with tm := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H20]; · iexact H20
  iintro %X H20
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_tc : WSlot (F := F) B c i B.tc (·.tc) (fun st X => {st with tc := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H21]; · iexact H21
  iintro %X H21
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_qst : WSlot (F := F) B c i B.qst (·.qst) (fun st X => {st with qst := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H22]; · iexact H22
  iintro %X H22
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31
theorem w_bst : WSlot (F := F) B c i B.bst (·.bst) (fun st X => {st with bst := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H23]; · iexact H23
  iintro %X H23
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem WSlot.r {sp : Space} {s : Shape} {e : EltTy} {m : Memref sig .tc sp s e} {get : St F → s.Idx → Elt F e} {set}
    (h : WSlot B c i m get set) (hid : ∀ st, set st (get st) = st) : RSlot B c i m get := by
  intro st
  refine (h st).trans ?_
  iintro ⟨H, K⟩
  isplitl [H]; · iexact H
  iintro H
  ihave K := K $$ %(get st) H
  rw [hid st]
  iexact K

theorem r_q : RSlot (F := F) B c i B.q (·.q) := w_q.r fun _ => rfl
theorem r_b : RSlot (F := F) B c i B.b (·.b) := w_b.r fun _ => rfl
theorem r_q0 : RSlot (F := F) B c i B.q0 (·.q0) := w_q0.r fun _ => rfl
theorem r_q1 : RSlot (F := F) B c i B.q1 (·.q1) := w_q1.r fun _ => rfl
theorem r_g : RSlot (F := F) B c i B.g (·.g) := w_g.r fun _ => rfl
theorem r_at : RSlot (F := F) B c i B.at' (·.at') := w_at.r fun _ => rfl
theorem r_an : RSlot (F := F) B c i B.an (·.an) := w_an.r fun _ => rfl
theorem r_stg : RSlot (F := F) B c i B.stg (·.stg) := w_stg.r fun _ => rfl
theorem r_sstg : RSlot (F := F) B c i B.sstg (·.sstg) := w_sstg.r fun _ => rfl
theorem r_scd : RSlot (F := F) B c i B.scd (·.scd) := w_scd.r fun _ => rfl
theorem r_om : RSlot (F := F) B c i B.om (·.om) := w_om.r fun _ => rfl
theorem r_omt : RSlot (F := F) B c i B.omt (·.omt) := w_omt.r fun _ => rfl
theorem r_wt : RSlot (F := F) B c i B.wt (·.wt) := w_wt.r fun _ => rfl
theorem r_qt : RSlot (F := F) B c i B.qt (·.qt) := w_qt.r fun _ => rfl
theorem r_yc : RSlot (F := F) B c i B.yc (·.yc) := w_yc.r fun _ => rfl
theorem r_gm : RSlot (F := F) B c i B.gm (·.gm) := w_gm.r fun _ => rfl
theorem r_tm : RSlot (F := F) B c i B.tm (·.tm) := w_tm.r fun _ => rfl
theorem r_tc : RSlot (F := F) B c i B.tc (·.tc) := w_tc.r fun _ => rfl
theorem r_qst : RSlot (F := F) B c i B.qst (·.qst) := w_qst.r fun _ => rfl
theorem r_bst : RSlot (F := F) B c i B.bst (·.bst) := w_bst.r fun _ => rfl

end rules

end Cert.KernelIdeal.Hand

end
-- ==== Proof.Rules.lean ====
/- Loads and stores of blocks of a matrix that agrees with a table of values on a set of its
   positions; sums of products; and copies. -/
module

public import proofs.«01_k».proof.Proof.State

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

/-! ### Tables of values -/

section tables
variable {e : EltTy} {R C : ℕ}

/-- The `h` by `w` block of the table `T` at row `r` and column `c`. -/
def Blk (h w : ℕ) (T : ℕ → ℕ → Elt F e) (r c : ℕ) : Vec F (Mx h w) e := fun y => T (r + (y 0).val) (c + (y 1).val)

open Classical in
/-- `X` with the table's values at the positions of `S`. -/
def ov (X : Vec F (Mx R C) e) (T : ℕ → ℕ → Elt F e) (S : ℕ → ℕ → Prop) : Vec F (Mx R C) e :=
  fun y => if S (y 0).val (y 1).val then T (y 0).val (y 1).val else X y

open Classical in
def ov1 (X : Vec F (Mx1 R C) e) (T : ℕ → ℕ → Elt F e) (S : ℕ → ℕ → Prop) : Vec F (Mx1 R C) e :=
  fun y => if S (y 1).val (y 2).val then T (y 1).val (y 2).val else X y

/-- `X` is the table's values at the positions of `S`. -/
def Agr (X : Vec F (Mx R C) e) (T : ℕ → ℕ → Elt F e) (S : ℕ → ℕ → Prop) : Prop :=
  ∀ y, S (y 0).val (y 1).val → X y = T (y 0).val (y 1).val
def Agr1 (X : Vec F (Mx1 R C) e) (T : ℕ → ℕ → Elt F e) (S : ℕ → ℕ → Prop) : Prop :=
  ∀ y, S (y 1).val (y 2).val → X y = T (y 1).val (y 2).val

/-- The positions of a block. -/
abbrev Bx (r c h w : ℕ) (a b : ℕ) : Prop := r ≤ a ∧ a < r + h ∧ c ≤ b ∧ b < c + w

theorem agr_ov {X : Vec F (Mx R C) e} {T : ℕ → ℕ → Elt F e} {S : ℕ → ℕ → Prop} : Agr (ov X T S) T S :=
  fun y h => if_pos h
theorem agr1_ov {X : Vec F (Mx1 R C) e} {T : ℕ → ℕ → Elt F e} {S : ℕ → ℕ → Prop} : Agr1 (ov1 X T S) T S :=
  fun y h => if_pos h

theorem Agr.mono {X : Vec F (Mx R C) e} {T : ℕ → ℕ → Elt F e} {S S' : ℕ → ℕ → Prop} (h : Agr X T S)
    (hS : ∀ a b, a < R → b < C → S' a b → S a b) : Agr X T S' := fun y hy => h y (hS _ _ (y 0).isLt (y 1).isLt hy)
theorem Agr1.mono {X : Vec F (Mx1 R C) e} {T : ℕ → ℕ → Elt F e} {S S' : ℕ → ℕ → Prop} (h : Agr1 X T S)
    (hS : ∀ a b, a < R → b < C → S' a b → S a b) : Agr1 X T S' := fun y hy => h y (hS _ _ (y 1).isLt (y 2).isLt hy)

theorem ov_empty (X : Vec F (Mx R C) e) (T : ℕ → ℕ → Elt F e) {S : ℕ → ℕ → Prop} (h : ∀ a b, a < R → b < C → ¬S a b) : ov X T S = X :=
  funext fun y => if_neg (h _ _ (y 0).isLt (y 1).isLt)
theorem ov1_empty (X : Vec F (Mx1 R C) e) (T : ℕ → ℕ → Elt F e) {S : ℕ → ℕ → Prop} (h : ∀ a b, a < R → b < C → ¬S a b) : ov1 X T S = X :=
  funext fun y => if_neg (h _ _ (y 1).isLt (y 2).isLt)

theorem ov_congr {X : Vec F (Mx R C) e} {T : ℕ → ℕ → Elt F e} {S S' : ℕ → ℕ → Prop}
    (h : ∀ a b, a < R → b < C → (S a b ↔ S' a b)) : ov X T S = ov X T S' := by
  funext y
  have := h _ _ (y 0).isLt (y 1).isLt
  unfold ov
  by_cases hs : S (y 0).val (y 1).val
  · rw [if_pos hs, if_pos (this.1 hs)]
  · rw [if_neg hs, if_neg (fun h' => hs (this.2 h'))]

theorem ov1_congr {X : Vec F (Mx1 R C) e} {T : ℕ → ℕ → Elt F e} {S S' : ℕ → ℕ → Prop}
    (h : ∀ a b, a < R → b < C → (S a b ↔ S' a b)) : ov1 X T S = ov1 X T S' := by
  funext y
  have := h _ _ (y 1).isLt (y 2).isLt
  unfold ov1
  by_cases hs : S (y 1).val (y 2).val
  · rw [if_pos hs, if_pos (this.1 hs)]
  · rw [if_neg hs, if_neg (fun h' => hs (this.2 h'))]

theorem put_ov {r c h w : ℕ} (hr : r + h ≤ R) (hc : c + w ≤ C) {X : Vec F (Mx R C) e} {T : ℕ → ℕ → Elt F e} {S S' : ℕ → ℕ → Prop}
    {x : Vec F (Mx h w) e} (hx : x = Blk h w T r c)
    (hS : ∀ a b, a < R → b < C → (S' a b ↔ S a b ∨ Bx r c h w a b)) :
    VecWindow.put (s := Mx R C) (ov X T S) ![r, c] ![h, w] x = ov X T S' := by
  subst hx
  funext y
  have h0 := hS _ _ (y 0).isLt (y 1).isLt
  unfold VecWindow.put
  by_cases hin : Bx r c h w (y 0).val (y 1).val
  · have hin' : ∀ a, (![r, c] : Fin 2 → ℕ) a ≤ (y a).val ∧ (y a).val < (![r, c] : Fin 2 → ℕ) a + (![h, w] : Fin 2 → ℕ) a := fun a =>
      match a with
      | 0 => ⟨hin.1, hin.2.1⟩
      | 1 => ⟨hin.2.2.1, hin.2.2.2⟩
    rw [dif_pos hin']
    unfold ov Blk
    rw [if_pos (h0.2 (.inr hin))]
    show T (r + ((y 0).val - r)) (c + ((y 1).val - c)) = _
    rw [Nat.add_sub_cancel' hin.1, Nat.add_sub_cancel' hin.2.2.1]
  · rw [dif_neg (fun hin' => hin ⟨(hin' 0).1, (hin' 0).2, (hin' 1).1, (hin' 1).2⟩)]
    unfold ov
    by_cases hs : S (y 0).val (y 1).val
    · rw [if_pos hs, if_pos (h0.2 (.inl hs))]
    · rw [if_neg hs, if_neg (fun h' => (h0.1 h').elim hs hin)]

theorem put_ov1 {r c h w : ℕ} (hr : r + h ≤ R) (hc : c + w ≤ C) {X : Vec F (Mx1 R C) e} {T : ℕ → ℕ → Elt F e} {S S' : ℕ → ℕ → Prop}
    {x : Vec F (Mx h w) e} (hx : x = Blk h w T r c)
    (hS : ∀ a b, a < R → b < C → (S' a b ↔ S a b ∨ Bx r c h w a b)) :
    VecWindow.put (s := Mx1 R C) (ov1 X T S) ![0, r, c] ![1, h, w] (shapeCast (Mx1 h w) x (cast21 h w)) = ov1 X T S' := by
  subst hx
  funext y
  have h0 := hS _ _ (y 1).isLt (y 2).isLt
  have hz : (y 0).val < 1 := (y 0).isLt
  unfold VecWindow.put
  by_cases hin : Bx r c h w (y 1).val (y 2).val
  · have hin' : ∀ a, (![0, r, c] : Fin 3 → ℕ) a ≤ (y a).val ∧ (y a).val < (![0, r, c] : Fin 3 → ℕ) a + (![1, h, w] : Fin 3 → ℕ) a := fun a =>
      match a with
      | 0 => ⟨Nat.zero_le _, hz⟩
      | 1 => ⟨hin.1, hin.2.1⟩
      | 2 => ⟨hin.2.2.1, hin.2.2.2⟩
    rw [dif_pos hin']
    have p1 : (y 1).val - r < h := by have h1 := hin.1; have h2 := hin.2.1; clear hin' h0; omega
    have p2 : (y 2).val - c < w := by have h1 := hin.2.2.1; have h2 := hin.2.2.2; clear hin' h0; omega
    have e : (Rect.unitLocal (s := Mx1 R C) (off := ![0, r, c]) (size := ![1, h, w]) y hin' : (Mx1 h w).Idx)
        = ix3 0 ⟨(y 1).val - r, p1⟩ ⟨(y 2).val - c, p2⟩ := by
      funext a
      match a with
      | 0 => exact Fin.ext (by show (y 0).val - 0 = 0; omega)
      | 1 => rfl
      | 2 => rfl
    rw [e]
    refine (shapeCast_ab_1ab_apply (Blk (F := F) h w T r c) (cast21 h w) 0 ⟨(y 1).val - r, p1⟩ ⟨(y 2).val - c, p2⟩).trans ?_
    unfold ov1 Blk
    rw [if_pos (h0.2 (.inr hin))]
    show T (r + ((y 1).val - r)) (c + ((y 2).val - c)) = _
    rw [Nat.add_sub_cancel' hin.1, Nat.add_sub_cancel' hin.2.2.1]
  · rw [dif_neg (fun hin' => hin ⟨(hin' 1).1, (hin' 1).2, (hin' 2).1, (hin' 2).2⟩)]
    unfold ov1
    by_cases hs : S (y 1).val (y 2).val
    · rw [if_pos hs, if_pos (h0.2 (.inl hs))]
    · rw [if_neg hs, if_neg (fun h' => (h0.1 h').elim hs hin)]

end tables

/-! ### Loads and stores of blocks -/

section blocks
variable {B : Bufs} {c : Dev nD} {i : Inp F} {e : EltTy} {R C : ℕ}

theorem Wps.ld2 {m : Memref sig .tc .vmem (Mx R C) e} {r cc h w : ℕ} {hr : r + h ≤ R} {hc : cc + w ≤ C} {hh : 0 < h} {hw : 0 < w}
    {get : St F → Vec F (Mx R C) e} {J : Vec F (Mx h w) e → St F → Prop} {st : St F} (hm : RSlot B c i m get)
    (T : ℕ → ℕ → Elt F e) {S : ℕ → ℕ → Prop} (hA : Agr (get st) T S) (hS : ∀ a b, a < R → b < C → Bx r cc h w a b → S a b)
    (hJ : J (Blk h w T r cc) st) : Wps B c i (Hand.ld2 m r cc h w hr hc hh hw) J st := by
  unfold Wps
  iintro H
  ihave H := (hm st) $$ H
  icases H with ⟨Hm, HK⟩
  iapply (wp_ldO c (X := get st))
  isplitl [Hm]; · iexact Hm
  iintro Hm
  iexists st
  isplitr
  · ipureintro
    have e : (fun y => get st ((box2 R C r cc h w hr hc).emb y)) = Blk h w T r cc := by
      funext y
      have h0 := (y 0).isLt
      have h1 := (y 1).isLt
      have ha : ((box2 R C r cc h w hr hc).emb y 0).val = r + (y 0).val := by show r + 1 * (y 0).val = _; omega
      have hb : ((box2 R C r cc h w hr hc).emb y 1).val = cc + (y 1).val := by show cc + 1 * (y 1).val = _; omega
      have := hA ((box2 R C r cc h w hr hc).emb y) (by
        rw [ha, hb]
        have h0' : (y 0).val < h := h0
        have h1' : (y 1).val < w := h1
        exact hS _ _ (by omega) (by omega) ⟨by omega, by omega, by omega, by omega⟩)
      rw [this, ha, hb]; rfl
    rw [e]; exact hJ
  iapply HK; iexact Hm

theorem Wps.ld2' {m : Memref sig .tc .vmem (Mx R C) e} {r cc h w : ℕ} {hr : r + h ≤ R} {hc : cc + w ≤ C} {hh : 0 < h} {hw : 0 < w}
    {get : St F → Vec F (Mx R C) e} {J : Vec F (Mx h w) e → St F → Prop} {st : St F} (hm : RSlot B c i m get)
    (hJ : ∀ x, J x st) : Wps B c i (Hand.ld2 m r cc h w hr hc hh hw) J st := by
  unfold Wps
  iintro H
  ihave H := (hm st) $$ H
  icases H with ⟨Hm, HK⟩
  iapply (wp_ldO c (X := get st))
  isplitl [Hm]; · iexact Hm
  iintro Hm
  iexists st
  isplitr; · ipureintro; exact hJ _
  iapply HK; iexact Hm

theorem Wps.ld3' {m : Memref sig .tc .vmem (Mx1 R C) e} {r cc h w : ℕ} {hr : r + h ≤ R} {hc : cc + w ≤ C} {hh : 0 < h} {hw : 0 < w}
    {get : St F → Vec F (Mx1 R C) e} {J : Vec F (Mx h w) e → St F → Prop} {st : St F} (hm : RSlot B c i m get)
    (hJ : J (shapeCast (Mx h w) (fun y => get st ((box3 R C r cc h w hr hc).emb y)) (cast12 h w)) st) :
    Wps B c i (Hand.ld3 m r cc h w hr hc hh hw) J st := by
  unfold Hand.ld3
  refine Wps.bind ?_
  unfold Wps
  iintro H
  ihave H := (hm st) $$ H
  icases H with ⟨Hm, HK⟩
  iapply (wp_ldO c (X := get st))
  isplitl [Hm]; · iexact Hm
  iintro Hm
  iexists st
  isplitr; · ipureintro; exact Wps.ret hJ
  iapply HK; iexact Hm

theorem Wps.ld3 {m : Memref sig .tc .vmem (Mx1 R C) e} {r cc h w : ℕ} {hr : r + h ≤ R} {hc : cc + w ≤ C} {hh : 0 < h} {hw : 0 < w}
    {get : St F → Vec F (Mx1 R C) e} {J : Vec F (Mx h w) e → St F → Prop} {st : St F} (hm : RSlot B c i m get)
    (T : ℕ → ℕ → Elt F e) {S : ℕ → ℕ → Prop} (hA : Agr1 (get st) T S) (hS : ∀ a b, a < R → b < C → Bx r cc h w a b → S a b)
    (hJ : J (Blk h w T r cc) st) : Wps B c i (Hand.ld3 m r cc h w hr hc hh hw) J st := by
  refine Wps.ld3' hm ?_
  have e : shapeCast (Mx h w) (fun y => get st ((box3 R C r cc h w hr hc).emb y)) (cast12 h w) = Blk h w T r cc := by
    funext y
    obtain ⟨a, b, rfl⟩ : ∃ a b, y = ix2 a b := ⟨y 0, y 1, eq_ix2 y⟩
    rw [shapeCast_1ab_ab_apply]
    have ha : ((box3 R C r cc h w hr hc).emb (ix3 ⟨0, Nat.one_pos⟩ a b) 1).val = r + a.val := by show r + 1 * a.val = _; omega
    have hb : ((box3 R C r cc h w hr hc).emb (ix3 ⟨0, Nat.one_pos⟩ a b) 2).val = cc + b.val := by show cc + 1 * b.val = _; omega
    have := hA ((box3 R C r cc h w hr hc).emb (ix3 ⟨0, Nat.one_pos⟩ a b)) (by
      rw [ha, hb]
      have := a.isLt
      have := b.isLt
      exact hS _ _ (by omega) (by omega) ⟨by omega, by omega, by omega, by omega⟩)
    exact this.trans (by rw [ha, hb]; rfl)
  rw [e]; exact hJ

theorem Wps.st2 {m : Memref sig .tc .vmem (Mx R C) e} {r cc h w : ℕ} {hr : r + h ≤ R} {hc : cc + w ≤ C} {hh : 0 < h} {hw : 0 < w} {hs}
    {get : St F → Vec F (Mx R C) e} {set} {x : Vec F (Mx h w) e} {J : PUnit → St F → Prop} {st : St F}
    (hm : WSlot B c i m get set) (hid : ∀ st, set st (get st) = st)
    {X : Vec F (Mx R C) e} {T : ℕ → ℕ → Elt F e} {S : ℕ → ℕ → Prop} (S' : ℕ → ℕ → Prop) (hX : get st = ov X T S)
    (hx : x = Blk h w T r cc) (hS : ∀ a b, a < R → b < C → (S' a b ↔ S a b ∨ Bx r cc h w a b))
    (hJ : J ⟨⟩ (set st (ov X T S'))) : Wps B c i (Hand.st2 m r cc h w hr hc hh hw hs x) J st := by
  unfold Hand.st2
  refine Wps.bind (Wps.ld2' (hm.r hid) fun _ => ?_)
  unfold Wps
  iintro H
  ihave H := (hm st) $$ H
  icases H with ⟨Hm, HK⟩
  iapply (wp_stO c (X := get st))
  isplitl [Hm]; · iexact Hm
  iintro Hm
  iexists set st (ov X T S')
  isplitr; · ipureintro; exact hJ
  have e : VecWindow.put (s := Mx R C) (get st) ![r, cc] ![h, w] (shapeCast (Mx h w) x rfl) = ov X T S' := by
    rw [hX, shapeCast_self]; exact put_ov hr hc hx hS
  iapply HK
  rw [← e]
  iexact Hm

theorem Wps.st3 {m : Memref sig .tc .vmem (Mx1 R C) e} {r cc h w : ℕ} {hr : r + h ≤ R} {hc : cc + w ≤ C} {hh : 0 < h} {hw : 0 < w} {hs}
    {get : St F → Vec F (Mx1 R C) e} {set} {x : Vec F (Mx h w) e} {J : PUnit → St F → Prop} {st : St F}
    (hm : WSlot B c i m get set) (hid : ∀ st, set st (get st) = st)
    {X : Vec F (Mx1 R C) e} {T : ℕ → ℕ → Elt F e} {S : ℕ → ℕ → Prop} (S' : ℕ → ℕ → Prop) (hX : get st = ov1 X T S)
    (hx : x = Blk h w T r cc) (hS : ∀ a b, a < R → b < C → (S' a b ↔ S a b ∨ Bx r cc h w a b))
    (hJ : J ⟨⟩ (set st (ov1 X T S'))) : Wps B c i (Hand.st3 m r cc h w hr hc hh hw hs x) J st := by
  unfold Hand.st3
  refine Wps.bind (Wps.ld3' (hm.r hid) ?_)
  unfold Wps
  iintro H
  ihave H := (hm st) $$ H
  icases H with ⟨Hm, HK⟩
  iapply (wp_stO c (X := get st))
  isplitl [Hm]; · iexact Hm
  iintro Hm
  iexists set st (ov1 X T S')
  isplitr; · ipureintro; exact hJ
  have e : VecWindow.put (s := Mx1 R C) (get st) ![0, r, cc] ![1, h, w] (shapeCast (Mx1 h w) x (cast21 h w)) = ov1 X T S' := by
    rw [hX]; exact put_ov1 hr hc hx hS
  iapply HK
  rw [← e]
  iexact Hm

/-- The sum of the values of the terms. -/
def sumV {s : Shape} : ℕ → (ℕ → FVec F s .f32) → FVec F s .f32
  | 0, f => f 0
  | n + 1, f => addf (sumV n f) (f (n + 1))

theorem Wps.sumN {s : Shape} {n : ℕ} {p : (k : ℕ) → k < n + 1 → P F (FVec F s .f32)} {f : ℕ → FVec F s .f32}
    {J : FVec F s .f32 → St F → Prop} {st : St F}
    (hp : ∀ k hk (J' : FVec F s .f32 → St F → Prop), J' (f k) st → Wps B c i (p k hk) J' st)
    (hJ : J (sumV n f) st) : Wps B c i (Hand.sumN n p) J st := by
  induction n generalizing J with
  | zero => exact hp 0 _ J hJ
  | succ n ih =>
    unfold Hand.sumN
    exact Wps.bind (ih (fun k hk J' h => hp k _ J' h) (Wps.bind (hp _ _ _ (Wps.ret hJ))))

end blocks

end Cert.KernelIdeal.Hand

end
-- ==== Proof.Copies.lean ====
/- The copies between the arrays and the scratch buffers. -/
module

public import proofs.«01_k».proof.Proof.Rules

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

/-! ### Entries of an array by number -/

section entries
variable {α : Type}
def at2 {m n : ℕ} [NeZero m] [NeZero n] (X : (⟨2, ![m, n]⟩ : Shape).Idx → α) (a b : ℕ) : α :=
  X (ix2 (Fin.ofNat m a) (Fin.ofNat n b))
def at3 {l m n : ℕ} [NeZero l] [NeZero m] [NeZero n] (X : (⟨3, ![l, m, n]⟩ : Shape).Idx → α) (a b c : ℕ) : α :=
  X (ix3 (Fin.ofNat l a) (Fin.ofNat m b) (Fin.ofNat n c))
def at4 {k l m n : ℕ} [NeZero k] [NeZero l] [NeZero m] [NeZero n] (X : (⟨4, ![k, l, m, n]⟩ : Shape).Idx → α) (a b c d : ℕ) : α :=
  X (ix4 (Fin.ofNat k a) (Fin.ofNat l b) (Fin.ofNat m c) (Fin.ofNat n d))

theorem ofNat_eq {n : ℕ} [NeZero n] {a : ℕ} (x : Fin n) (h : x.val = a) : x = Fin.ofNat n a := by
  subst h; exact Fin.ext (Nat.mod_eq_of_lt x.isLt).symm

theorem at2_eq {m n : ℕ} [NeZero m] [NeZero n] (X : (⟨2, ![m, n]⟩ : Shape).Idx → α) {a b : ℕ} (y : (⟨2, ![m, n]⟩ : Shape).Idx)
    (h0 : (y 0).val = a) (h1 : (y 1).val = b) : X y = at2 X a b := by
  rw [eq_ix2 y]; unfold at2
  rw [← ofNat_eq (n := m) (y 0) h0, ← ofNat_eq (n := n) (y 1) h1]; rfl
theorem at3_eq {l m n : ℕ} [NeZero l] [NeZero m] [NeZero n] (X : (⟨3, ![l, m, n]⟩ : Shape).Idx → α) {a b c : ℕ} (y : (⟨3, ![l, m, n]⟩ : Shape).Idx)
    (h0 : (y 0).val = a) (h1 : (y 1).val = b) (h2 : (y 2).val = c) : X y = at3 X a b c := by
  rw [eq_ix3 y]; unfold at3
  rw [← ofNat_eq (n := l) (y 0) h0, ← ofNat_eq (n := m) (y 1) h1, ← ofNat_eq (n := n) (y 2) h2]; rfl
theorem at4_eq {k l m n : ℕ} [NeZero k] [NeZero l] [NeZero m] [NeZero n] (X : (⟨4, ![k, l, m, n]⟩ : Shape).Idx → α) {a b c d : ℕ} (y : (⟨4, ![k, l, m, n]⟩ : Shape).Idx)
    (h0 : (y 0).val = a) (h1 : (y 1).val = b) (h2 : (y 2).val = c) (h3 : (y 3).val = d) : X y = at4 X a b c d := by
  rw [eq_ix4 y]; unfold at4
  rw [← ofNat_eq (n := k) (y 0) h0, ← ofNat_eq (n := l) (y 1) h1, ← ofNat_eq (n := m) (y 2) h2, ← ofNat_eq (n := n) (y 3) h3]; rfl

/-- The array `X` with `w` at the first index `b`. -/
def set3 {l m n : ℕ} (b : ℕ) (X : (⟨3, ![l, m, n]⟩ : Shape).Idx → α) (w : (Mx m n).Idx → α) : (⟨3, ![l, m, n]⟩ : Shape).Idx → α :=
  fun y => if (y 0).val = b then w (ix2 (y 1) (y 2)) else X y
def set4 {k l m n : ℕ} (a b : ℕ) (X : (⟨4, ![k, l, m, n]⟩ : Shape).Idx → α) (w : (Mx m n).Idx → α) : (⟨4, ![k, l, m, n]⟩ : Shape).Idx → α :=
  fun y => if (y 0).val = a ∧ (y 1).val = b then w (ix2 (y 2) (y 3)) else X y
end entries

section views
variable (c : Dev nD) {sp : Space} {e : EltTy}

theorem Src.congr {s s' : Shape} {m : Memref sig .tc sp s e} {v : Memref sig .tc sp s' e} {rd rd'} (h : Src (F := F) c m v rd)
    (hr : ∀ X, rd X = rd' X) : Src (F := F) c m v rd' := (funext hr : rd = rd') ▸ h
theorem Dst.congr {s s' : Shape} {m : Memref sig .tc sp s e} {v : Memref sig .tc sp s' e} {wr wr'} (h : Dst (F := F) c m v wr)
    (hr : ∀ X w, wr X w = wr' X w) : Dst (F := F) c m v wr' := (funext fun X => funext (hr X) : wr = wr') ▸ h

theorem src2 {R C h w : ℕ} [NeZero R] [NeZero C] (m : Memref sig .tc sp (Mx R C) e) (inb hs) :
    Src (F := F) c m (m.slice (Rect.unit (s := Mx R C) ![0, 0] (Mx h w).size inb) hs) (fun X => Blk h w (at2 X) 0 0) :=
  (src_slice c m _ hs).congr c fun X => funext fun y => at2_eq X _ (by show 0 + 1 * (y 0).val = 0 + _; omega) (by show 0 + 1 * (y 1).val = 0 + _; omega)

theorem src3 {L R C h w b r cc : ℕ} [NeZero L] [NeZero R] [NeZero C] (m : Memref sig .tc sp ⟨3, ![L, R, C]⟩ e) (off : Fin 3 → ℕ) (inb hs)
    (hq : (Mx1 h w).Squeezes (Mx h w)) (ho : off = ![b, r, cc]) :
    Src (F := F) c m ((m.slice (Rect.unit (s := ⟨3, ![L, R, C]⟩) off (Mx1 h w).size inb) hs).squeeze (Mx h w) hq)
      (fun X => Blk h w (at3 X b) r cc) := by
  subst ho
  refine (src_squeeze c m _ hs hq).congr c fun X => funext fun y => ?_
  have e : Shape.reshapeEquiv hq.numel_eq y = ix3 (⟨0, Nat.one_pos⟩ : Fin 1) (y 0) (y 1) :=
    (congrArg _ (eq_ix2 y)).trans (reshapeEquiv_ix2_1ab hq.numel_eq (y 0) (y 1))
  rw [e]
  exact at3_eq X _ (by show b + 1 * 0 = b; omega) (by show r + 1 * (y 0).val = r + _; omega) (by show cc + 1 * (y 1).val = cc + _; omega)

theorem src4 {K L R C h w a b : ℕ} [NeZero K] [NeZero L] [NeZero R] [NeZero C] (m : Memref sig .tc sp ⟨4, ![K, L, R, C]⟩ e) (off : Fin 4 → ℕ) (inb hs)
    (hq : (⟨4, ![1, 1, h, w]⟩ : Shape).Squeezes (Mx h w)) (ho : off = ![a, b, 0, 0]) :
    Src (F := F) c m ((m.slice (Rect.unit (s := ⟨4, ![K, L, R, C]⟩) off (⟨4, ![1, 1, h, w]⟩ : Shape).size inb) hs).squeeze (Mx h w) hq)
      (fun X => Blk h w (at4 X a b) 0 0) := by
  subst ho
  refine (src_squeeze c m _ hs hq).congr c fun X => funext fun y => ?_
  have e : Shape.reshapeEquiv hq.numel_eq y = ix4 (⟨0, Nat.one_pos⟩ : Fin 1) (⟨0, Nat.one_pos⟩ : Fin 1) (y 0) (y 1) :=
    (congrArg _ (eq_ix2 y)).trans (reshapeEquiv_ix2_11ab hq.numel_eq (y 0) (y 1))
  rw [e]
  exact at4_eq X _ (by show a + 1 * 0 = a; omega) (by show b + 1 * 0 = b; omega) (by show 0 + 1 * (y 0).val = 0 + _; omega) (by show 0 + 1 * (y 1).val = 0 + _; omega)

open Classical in
theorem dsq_eq {s s' : Shape} {α : Type} {f : s'.Idx → s.Idx} {X V : s.Idx → α} {w : s'.Idx → α}
    (h1 : ∀ z, V (f z) = w z) (h2 : ∀ y, (∀ z, f z ≠ y) → V y = X y) :
    (fun y => if h : ∃ z, f z = y then w h.choose else X y) = V := by
  funext y
  by_cases h : ∃ z, f z = y
  · beta_reduce
    rw [dif_pos h, ← h1, h.choose_spec]
  · beta_reduce
    rw [dif_neg h, h2 y fun z hz => h ⟨z, hz⟩]

theorem dst3 {L R C b : ℕ} (m : Memref sig .tc sp ⟨3, ![L, R, C]⟩ e) (off : Fin 3 → ℕ) (inb hs)
    (hq : (Mx1 R C).Squeezes (Mx R C)) (ho : off = ![b, 0, 0]) :
    Dst (F := F) c m ((m.slice (Rect.unit (s := ⟨3, ![L, R, C]⟩) off (Mx1 R C).size inb) hs).squeeze (Mx R C) hq) (set3 b) := by
  subst ho
  refine (dst_squeeze c m _ hs hq).congr c fun X w => dsq_eq (fun z => ?_) (fun y hy => ?_)
  · have e : Shape.reshapeEquiv hq.numel_eq z = ix3 (⟨0, Nat.one_pos⟩ : Fin 1) (z 0) (z 1) :=
      (congrArg _ (eq_ix2 z)).trans (reshapeEquiv_ix2_1ab hq.numel_eq (z 0) (z 1))
    rw [e]
    unfold set3
    rw [if_pos (by show b + 1 * 0 = b; omega)]
    refine congrArg w ((eq_ix2 z).symm ▸ ?_)
    funext a
    match a with
    | 0 => exact Fin.ext (by show 0 + 1 * (z 0).val = (z 0).val; omega)
    | 1 => exact Fin.ext (by show 0 + 1 * (z 1).val = (z 1).val; omega)
  · unfold set3
    rw [if_neg]
    intro hb
    refine hy (ix2 (n0 := R) (n1 := C) (y 1) (y 2)) ((congrArg _ (reshapeEquiv_ix2_1ab hq.numel_eq (y 1) (y 2))).trans ?_)
    funext a
    match a with
    | 0 => exact Fin.ext (by show b + 1 * 0 = (y 0).val; omega)
    | 1 => exact Fin.ext (by show 0 + 1 * (y 1).val = (y 1).val; omega)
    | 2 => exact Fin.ext (by show 0 + 1 * (y 2).val = (y 2).val; omega)

theorem dst4 {K L R C a b : ℕ} (m : Memref sig .tc sp ⟨4, ![K, L, R, C]⟩ e) (off : Fin 4 → ℕ) (inb hs)
    (hq : (⟨4, ![1, 1, R, C]⟩ : Shape).Squeezes (Mx R C)) (ho : off = ![a, b, 0, 0]) :
    Dst (F := F) c m ((m.slice (Rect.unit (s := ⟨4, ![K, L, R, C]⟩) off (⟨4, ![1, 1, R, C]⟩ : Shape).size inb) hs).squeeze (Mx R C) hq) (set4 a b) := by
  subst ho
  refine (dst_squeeze c m _ hs hq).congr c fun X w => dsq_eq (fun z => ?_) (fun y hy => ?_)
  · have e : Shape.reshapeEquiv hq.numel_eq z = ix4 (⟨0, Nat.one_pos⟩ : Fin 1) (⟨0, Nat.one_pos⟩ : Fin 1) (z 0) (z 1) :=
      (congrArg _ (eq_ix2 z)).trans (reshapeEquiv_ix2_11ab hq.numel_eq (z 0) (z 1))
    rw [e]
    unfold set4
    rw [if_pos ⟨by show a + 1 * 0 = a; omega, by show b + 1 * 0 = b; omega⟩]
    refine congrArg w ((eq_ix2 z).symm ▸ ?_)
    funext a
    match a with
    | 0 => exact Fin.ext (by show 0 + 1 * (z 0).val = (z 0).val; omega)
    | 1 => exact Fin.ext (by show 0 + 1 * (z 1).val = (z 1).val; omega)
  · unfold set4
    rw [if_neg]
    rintro ⟨ha, hb⟩
    refine hy (ix2 (n0 := R) (n1 := C) (y 2) (y 3)) ((congrArg _ (reshapeEquiv_ix2_11ab hq.numel_eq (y 2) (y 3))).trans ?_)
    funext k
    match k with
    | 0 => exact Fin.ext (by show a + 1 * 0 = (y 0).val; omega)
    | 1 => exact Fin.ext (by show b + 1 * 0 = (y 1).val; omega)
    | 2 => exact Fin.ext (by show 0 + 1 * (y 2).val = (y 2).val; omega)
    | 3 => exact Fin.ext (by show 0 + 1 * (y 3).val = (y 3).val; omega)

end views

section copies
variable {B : Bufs} {c : Dev nD} {i : Inp F}

/-- The state gives what a copy needs and takes what it leaves. -/
def CSlot (B : Bufs) (c : Dev nD) (i : Inp F) {sp sp' : Space} {s s' : Shape} {e e' : EltTy} (m : Memref sig .tc sp s e) (n : Memref sig .tc sp' s' e')
    (k : DmaSem sig) (get : St F → s.Idx → Elt F e) (getn : St F → s'.Idx → Elt F e') (setn : St F → (s'.Idx → Elt F e') → St F) : Prop :=
  ∀ st, Own B c i st ⊢ iprop(owns (c : Thread nD τ) m fullShare (get st) ∗ owns (c : Thread nD τ) n fullShare (getn st)
    ∗ semVal ((c : Thread nD τ), SemLoc.dma k) 0 ∗ (∃ W, owes (c : Thread nD τ) 0 W)
    ∗ ∀ X, owns (c : Thread nD τ) m fullShare (get st) -∗ owns (c : Thread nD τ) n fullShare X
      -∗ semVal ((c : Thread nD τ), SemLoc.dma k) 0 -∗ (∃ W, owes (c : Thread nD τ) 0 W) -∗ Own B c i (setn st X))

theorem Wps.copy {sp sp' : Space} {s s₁ s' : Shape} {e : EltTy} {m : Memref sig .tc sp s e} {v : Memref sig .tc sp s₁ e} {rd}
    {n : Memref sig .tc sp' s' e} {u : Memref sig .tc sp' s₁ e} {wr} {k : DmaSem sig}
    {get : St F → s.Idx → Elt F e} {getn : St F → s'.Idx → Elt F e} {setn} {h1 h2 h3 h4 h5} {J : PUnit → St F → Prop} {st : St F}
    (hk : CSlot B c i m n k get getn setn) (hv : Src (F := F) c m v rd) (hu : Dst (F := F) c n u wr) (hpos : 0 < u.view.dmaCredit)
    (hJ : J ⟨⟩ (setn st (wr (getn st) (rd (get st))))) :
    Wps B c i (do
      Prog.lift (.enqueueDma v (.here u) (.dma k) h1 h2 h3)
      Prog.lift (.waitDma2 k v u h4 h5)) J st := by
  unfold Wps
  iintro H
  ihave H := (hk st) $$ H
  icases H with ⟨Hm, Hn, Hk, ⟨%W, Ho⟩, HK⟩
  unfold Hand.Wp
  rw [wp_bind]
  iapply (wp_startO c hv hu hpos (X := get st) (Y := getn st))
  isplitl [Hm]; · iexact Hm
  isplitl [Hn]; · iexact Hn
  isplitl [Hk]; · iexact Hk
  iintro Hf
  iapply (wp_endO c (X := get st) (Y := getn st) (W := W))
  isplitl [Hf]; · iexact Hf
  isplitl [Ho]; · iexact Ho
  iintro Ho Hk Hm Hn
  iexists setn st (wr (getn st) (rd (get st)))
  isplitr; · ipureintro; exact hJ
  iapply HK $$ %(wr (getn st) (rd (get st))) Hm Hn Hk Ho

theorem c_gm_g : CSlot (F := F) B c i B.gm B.g (cell B 5 inb_S7_S1_5) (·.gm) (·.g) (fun st X => {st with g := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H19]; · iexact H19
  isplitl [H8]; · iexact H8
  isplitl [H29]; · iexact H29
  isplitl [H31]; · iexact H31
  iintro %X H19 H8 H29 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem c_tinv_tm : CSlot (F := F) B c i B.tinv B.tm (cell B 6 inb_S7_S1_6) (fun _ => i.tinv) (·.tm) (fun st X => {st with tm := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H3]; · iexact H3
  isplitl [H20]; · iexact H20
  isplitl [H30]; · iexact H30
  isplitl [H31]; · iexact H31
  iintro %X H3 H20 H30 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem c_qst_q0 : CSlot (F := F) B c i B.qst B.q0 (cell B 3 inb_S7_S1_3) (·.qst) (·.q0) (fun st X => {st with q0 := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H22]; · iexact H22
  isplitl [H6]; · iexact H6
  isplitl [H27]; · iexact H27
  isplitl [H31]; · iexact H31
  iintro %X H22 H6 H27 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem c_qst_q1 : CSlot (F := F) B c i B.qst B.q1 (cell B 3 inb_S7_S1_3) (·.qst) (·.q1) (fun st X => {st with q1 := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H22]; · iexact H22
  isplitl [H7]; · iexact H7
  isplitl [H27]; · iexact H27
  isplitl [H31]; · iexact H31
  iintro %X H22 H7 H27 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem c_qst_q : CSlot (F := F) B c i B.qst B.q (cell B 3 inb_S7_S1_3) (·.qst) (·.q) (fun st X => {st with q := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H22]; · iexact H22
  isplitl [H4]; · iexact H4
  isplitl [H27]; · iexact H27
  isplitl [H31]; · iexact H31
  iintro %X H22 H4 H27 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem c_bst_b : CSlot (F := F) B c i B.bst B.b (cell B 4 inb_S7_S1_4) (·.bst) (·.b) (fun st X => {st with b := X}) := by
  intro st; unfold Own
  iintro ⟨H0, H1, H2, H3, H4, H5, H6, H7, H8, H9, H10, H11, H12, H13, H14, H15, H16, H17, H18, H19, H20, H21, H22, H23, H24, H25, H26, H27, H28, H29, H30, H31⟩
  isplitl [H23]; · iexact H23
  isplitl [H5]; · iexact H5
  isplitl [H28]; · iexact H28
  isplitl [H31]; · iexact H31
  iintro %X H23 H5 H28 H31
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem Wps.copyIn {t1 : Fin k0_t1_loop.trips} {t2 : Fin k0_t2_loop.trips} {J : PUnit → St F → Prop} {st : St F}
    (hJ : J ⟨⟩ {st with
      stg := set3 0 st.stg (Blk 128 2880 (at3 i.codes t1.val) (128 * t2.val) 0)
      sstg := set3 0 st.sstg (Blk 128 90 (at3 i.scale t1.val) (128 * t2.val) 0)}) :
    Wps B c i (Hand.copyIn B t1 t2) J st := by
  have v1 := src3 (F := F) c B.codes (k0_off1 t1 t2) (k0_off1_inb t1 t2) (fun _ => rfl) squeezes_S1x128x2880_S128x2880 (Gen.k0_off1_eq t1 t2)
  have v2 := src3 (F := F) c B.scale (k0_off2 t1 t2) (k0_off2_inb t1 t2) (fun _ => rfl) squeezes_S1x128x90_S128x90 (Gen.k0_off2_eq t1 t2)
  have u1 := dst3 (F := F) (b := 0) c B.stg ![0, 0, 0] inb_S1x128x2880_S1x128x2880_0_0_0 (fun _ => rfl) squeezes_S1x128x2880_S128x2880 rfl
  have u2 := dst3 (F := F) (b := 0) c B.sstg ![0, 0, 0] inb_S1x128x90_S1x128x90_0_0_0 (fun _ => rfl) squeezes_S1x128x90_S128x90 rfl
  have p1 : 0 < (stgM B).view.dmaCredit := View.dmaCredit_pos _ (pos2 (by omega) (by omega))
  have p2 : 0 < (sstgM B).view.dmaCredit := View.dmaCredit_pos _ (pos2 (by omega) (by omega))
  unfold Wps Own Hand.Wp Hand.copyIn
  iintro ⟨H0, H1, H2, H3, H4, H5, H6, H7, H8, H9, H10, H11, H12, H13, H14, H15, H16, H17, H18, H19, H20, H21, H22, H23, H24, H25, H26, H27, H28, H29, H30, ⟨%W, H31⟩⟩
  rw [wp_bind]
  iapply (wp_startO c v1 u1 p1 (X := i.codes) (Y := st.stg))
  isplitl [H0]; · iexact H0
  isplitl [H11]; · iexact H11
  isplitl [H24]; · iexact H24
  iintro Hf1
  rw [wp_bind]
  iapply (wp_startO c v2 u2 p2 (X := i.scale) (Y := st.sstg))
  isplitl [H1]; · iexact H1
  isplitl [H12]; · iexact H12
  isplitl [H25]; · iexact H25
  iintro Hf2
  rw [wp_bind]
  iapply (wp_endO c (X := i.codes) (Y := st.stg) (W := W))
  isplitl [Hf1]; · iexact Hf1
  isplitl [H31]; · iexact H31
  iintro ⟨%W', H31⟩ H24 H0 H11
  iapply (wp_endO c (X := i.scale) (Y := st.sstg) (W := W'))
  isplitl [Hf2]; · iexact Hf2
  isplitl [H31]; · iexact H31
  iintro H31 H25 H1 H12
  iexists _
  isplitr; · ipureintro; exact hJ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem Wps.copyOm {α : Type} {x : Vec F S128x128 .f32} {hr hc hh hw hs} {k : PUnit → P F α} {J : α → St F → Prop} {st : St F}
    (hJ : ∀ X, Wps B c i (k ⟨⟩) J {st with om := i.omega, tm := X}) {h1 h2 h3 h4 h5} :
    Wps B c i (do
      Prog.lift (.enqueueDma B.omega (.here B.om) (.dma (cell B 2 inb_S7_S1_2)) h1 h2 h3)
      Hand.st2 B.tm 0 0 128 128 hr hc hh hw hs x
      Prog.lift (.waitDma2 (cell B 2 inb_S7_S1_2) B.omega B.om h4 h5)
      k ⟨⟩) J st := by
  have p1 : 0 < B.om.view.dmaCredit := View.dmaCredit_pos _ (pos2 (by omega) (by omega))
  unfold Wps Own Hand.Wp Hand.st2 Hand.ld2
  iintro ⟨H0, H1, H2, H3, H4, H5, H6, H7, H8, H9, H10, H11, H12, H13, H14, H15, H16, H17, H18, H19, H20, H21, H22, H23, H24, H25, H26, H27, H28, H29, H30, ⟨%W, H31⟩⟩
  rw [wp_bind]
  iapply (wp_startO c (src_whole c B.omega) (dst_whole c B.om) p1 (X := i.omega) (Y := st.om))
  isplitl [H2]; · iexact H2
  isplitl [H14]; · iexact H14
  isplitl [H26]; · iexact H26
  iintro Hf1
  rw [wp_bind, wp_bind]
  iapply (wp_ldO c (X := st.tm))
  isplitl [H20]; · iexact H20
  iintro H20
  iapply (wp_stO c (X := st.tm))
  isplitl [H20]; · iexact H20
  iintro H20
  rw [wp_bind]
  iapply (wp_endO c (X := i.omega) (Y := st.om) (W := W))
  isplitl [Hf1]; · iexact Hf1
  isplitl [H31]; · iexact H31
  iintro H31 H26 H2 H14
  have hJ' := hJ (VecWindow.put st.tm ![0, 0] ![128, 128] (shapeCast (Mx 128 128) x rfl))
  unfold Wps Own Hand.Wp at hJ'
  iapply hJ'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

end copies

end Cert.KernelIdeal.Hand

end
-- ==== Proof.ChunkJobs.lean ====
/- What the jobs on a chunk of rows leave: both layouts of the matrix's values. -/
module

public import proofs.«01_k».proof.Proof.Copies

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

section tables
variable (i : Inp F) (b : ℕ)

/-- The matrix's value at row `s` and column `d`: the code times the scale of its group of 32. -/
def av (s d : ℕ) : Elt F .bf16 :=
  FloatOps.mulf (FloatOps.sitofp .bf16 (at3 i.codes b s d))
    (FloatOps.truncf .bf16 bitsLt_bf16_f32 (FloatOps.extf .f32 bitsLt_bf16_f32 (FloatOps.truncf .bf16 bitsLt_bf16_f32 (at3 i.scale b s (d / 32)))))
/-- Transposed and straight. -/
def atT : ℕ → ℕ → Elt F .bf16 := fun d s => av i b s d
def anT : ℕ → ℕ → Elt F .bf16 := fun s d => av i b s d
/-- The scales of the chunk at row `s`. -/
def scT (s : ℕ) : ℕ → ℕ → Elt F .f32 := fun g r =>
  FloatOps.extf .f32 bitsLt_bf16_f32 (FloatOps.truncf .bf16 bitsLt_bf16_f32 (at3 i.scale b (s + r) g))
/-- The chunk's codes, transposed, as numbers. -/
def cdT (s : ℕ) : ℕ → ℕ → Elt F .bf16 := fun d r => FloatOps.sitofp .bf16 (at3 i.codes b (s + r) d)
/-- The random matrix, transposed, with zero rows under it. -/
def omT : ℕ → ℕ → Elt F .bf16 := fun r d => if r < 120 then at2 i.omega d r else Scalar.ofBits .bf16 0x0000#16
end tables

section chunk
variable {B : Bufs} {c : Dev nD} {i : Inp F} {b : ℕ}

theorem tGroup_val {RR g o s d0 k : ℕ} {v : FVec F (Mx RR 128) .bf16} (hv : v = Blk RR 128 (cdT i b s) d0 0) (hd : d0 + o + k = 32 * g + k)
    (hk : k + 16 ≤ 32) (hsl : (Mx RR 128).Slices ![o + k, 0] (Mx 16 128)) :
    mulf (extractStridedSlice S16x128 ![o + k, 0] v hsl)
      (truncf .bf16 (broadcastTo S16x128 (shapeCast S1x128 (Blk 1 128 (scT i b s) g 0) shapeCasts_S1x128_S1x128) broadcasts_S1x128_S16x128) bitsLt_bf16_f32)
    = Blk 16 128 (atT i b) (32 * g + k) s := by
  subst hv
  funext y
  obtain ⟨x, z, rfl⟩ : ∃ x z, y = ix2 x z := ⟨y 0, y 1, eq_ix2 y⟩
  have hx : x.val < 16 := x.isLt
  show FloatOps.mulf (cdT i b s (d0 + (o + k + x.val)) (0 + (0 + z.val))) (FloatOps.truncf .bf16 _ (broadcastTo S16x128 _ _ (ix2 x z)))
    = av i b (s + z.val) (32 * g + k + x.val)
  rw [shapeCast_self, broadcastTo_1b_ab_apply]
  show FloatOps.mulf (cdT i b s (d0 + (o + k + x.val)) (0 + (0 + z.val))) (FloatOps.truncf .bf16 _ (scT i b s (g + 0) (0 + z.val))) = _
  unfold cdT scT av
  rw [show d0 + (o + k + x.val) = 32 * g + k + x.val by omega, show (32 * g + k + x.val) / 32 = g by omega]
  simp only [Nat.zero_add, Nat.add_zero]

theorem Wps.tGroup {RR g o s d0 : ℕ} {v : FVec F (Mx RR 128) .bf16} {hs : s + 128 ≤ 1536} {hg : g < 90} {ho : o + 32 ≤ RR}
    {J : PUnit → St F → Prop} {st : St F} (hsc : Agr1 st.scd (scT i b s) fun _ _ => True)
    (hv : v = Blk RR 128 (cdT i b s) d0 0) (hd : d0 + o = 32 * g)
    {X : Vec F S1x2880x1536 .bf16} {S : ℕ → ℕ → Prop} (S' : ℕ → ℕ → Prop) (hX : st.at' = ov1 X (atT i b) S)
    (hS : ∀ x z, x < 2880 → z < 1536 → (S' x z ↔ S x z ∨ Bx (32 * g) s 32 128 x z))
    (hJ : J ⟨⟩ {st with at' := ov1 X (atT i b) S'}) : Wps B c i (Hand.tGroup B v g o s hs hg ho) J st := by
  unfold Hand.tGroup
  refine Wps.bind (Wps.ld3 r_scd (scT i b s) hsc (fun _ _ _ _ _ => trivial) ?_)
  refine Wps.bind (Wps.st3 w_at (fun _ => rfl) (fun x z => S x z ∨ Bx (32 * g) s 16 128 x z) hX
    (tGroup_val (k := 0) hv (by omega) (by omega) _) (fun _ _ _ _ => Iff.rfl) ?_)
  refine Wps.st3 w_at (fun _ => rfl) (X := X) (S := fun x z => S x z ∨ Bx (32 * g) s 16 128 x z) S' rfl (tGroup_val (k := 16) hv (by omega) (by omega) _) (fun x z hx hz => ?_) hJ
  rw [hS x z hx hz, or_assoc]
  refine or_congr Iff.rfl ?_
  unfold Bx
  omega

theorem trans_blk {e : EltTy} {h w r cc : ℕ} (T : ℕ → ℕ → Elt F e) (ht : (Mx h w).Transposes [1, 0] (Mx w h)) :
    transpose (Mx w h) [1, 0] (Blk h w T r cc) ht = Blk w h (fun a b => T b a) cc r := by
  funext y
  obtain ⟨x, z, rfl⟩ : ∃ x z, y = ix2 x z := ⟨y 0, y 1, eq_ix2 y⟩
  rw [transpose_ix2_apply]
  rfl

theorem Wps.tBlock {s k : ℕ} {hs : s + 128 ≤ 1536} {hk : k < 22}
    {J : PUnit → St F → Prop} {st : St F} (hsc : Agr1 st.scd (scT i b s) fun _ _ => True)
    (hcd : Agr1 st.stg (fun r d => at3 i.codes b (s + r) d) fun _ _ => True)
    {X : Vec F S1x2880x1536 .bf16} (hX : st.at' = ov1 X (atT i b) (Bx 0 s (128 * k) 128))
    (hJ : J ⟨⟩ {st with at' := ov1 X (atT i b) (Bx 0 s (128 * (k + 1)) 128)}) : Wps B c i (Hand.tBlock B s hs k hk) J st := by
  unfold Hand.tBlock
  refine Wps.bind (Wps.ld3 r_stg _ hcd (fun _ _ _ _ _ => trivial) ?_)
  refine Wps.forN (fun j => {st with at' := ov1 X (atT i b) (Bx 0 s (32 * (4 * k + j)) 128)}) ?_ (fun j hj J' hJ' => ?_) ?_
  · rw [show 32 * (4 * k + 0) = 128 * k by omega, ← hX]
  · refine Wps.tGroup (d0 := 128 * k) (by exact hsc) ?_ (by omega) (Bx 0 s (32 * (4 * k + (j + 1))) 128) rfl (fun x z hx hz => ?_) hJ'
    · rw [trans_blk]; rfl
    · unfold Bx; omega
  · rw [show 32 * (4 * k + 4) = 128 * (k + 1) by omega]; exact hJ

theorem Wps.tLast {s : ℕ} {hs : s + 128 ≤ 1536}
    {J : PUnit → St F → Prop} {st : St F} (hsc : Agr1 st.scd (scT i b s) fun _ _ => True)
    (hcd : Agr1 st.stg (fun r d => at3 i.codes b (s + r) d) fun _ _ => True)
    {X : Vec F S1x2880x1536 .bf16} (hX : st.at' = ov1 X (atT i b) (Bx 0 s (128 * 22) 128))
    (hJ : J ⟨⟩ {st with at' := ov1 X (atT i b) (Bx 0 s 2880 128)}) : Wps B c i (Hand.tLast B s hs) J st := by
  unfold Hand.tLast
  refine Wps.bind (Wps.ld3 r_stg _ hcd (fun _ _ _ _ _ => trivial) ?_)
  refine Wps.forN (fun j => {st with at' := ov1 X (atT i b) (Bx 0 s (32 * (88 + j)) 128)}) ?_ (fun j hj J' hJ' => ?_) hJ
  · show {st with at' := ov1 X (atT i b) (Bx 0 s (128 * 22) 128)} = st
    rw [← hX]
  · refine Wps.tGroup (d0 := 2816) (by exact hsc) ?_ (by omega) (Bx 0 s (32 * (88 + (j + 1))) 128) rfl (fun x z hx hz => ?_) hJ'
    · rw [trans_blk]; rfl
    · unfold Bx; omega

theorem Wps.nBlock {s k : ℕ} {hs : s + 128 ≤ 1536} {hs2 : 2 ∣ s} {hk : k < 22}
    {J : PUnit → St F → Prop} {st : St F} {X' : Vec F S1x2880x1536 .bf16} (hat : st.at' = ov1 X' (atT i b) (Bx 0 s 2880 128))
    {X : Vec F S1x1536x2880 .bf16} (hX : st.an = ov1 X (anT i b) (Bx s 0 128 (128 * k)))
    (hJ : J ⟨⟩ {st with an := ov1 X (anT i b) (Bx s 0 128 (128 * (k + 1)))}) : Wps B c i (Hand.nBlock B s hs hs2 k hk) J st := by
  unfold Hand.nBlock
  refine Wps.bind (Wps.ld3 r_at (atT i b) (S := Bx 0 s 2880 128) (by rw [hat]; exact agr1_ov) (fun _ _ _ _ => by unfold Bx; omega) ?_)
  refine Wps.st3 w_an (fun _ => rfl) _ hX (trans_blk _ _) (fun x z hx hz => by unfold Bx; omega) hJ

theorem Wps.nLast {s : ℕ} {hs : s + 128 ≤ 1536} {hs2 : 2 ∣ s}
    {J : PUnit → St F → Prop} {st : St F} {X' : Vec F S1x2880x1536 .bf16} (hat : st.at' = ov1 X' (atT i b) (Bx 0 s 2880 128))
    {X : Vec F S1x1536x2880 .bf16} (hX : st.an = ov1 X (anT i b) (Bx s 0 128 (128 * 22)))
    (hJ : J ⟨⟩ {st with an := ov1 X (anT i b) (Bx s 0 128 2880)}) : Wps B c i (Hand.nLast B s hs hs2) J st := by
  unfold Hand.nLast
  refine Wps.bind (Wps.ld3 r_at (atT i b) (S := Bx 0 s 2880 128) (by rw [hat]; exact agr1_ov) (fun _ _ _ _ => by unfold Bx; omega) ?_)
  refine Wps.st3 w_an (fun _ => rfl) _ hX (trans_blk _ _) (fun x z hx hz => by unfold Bx; omega) hJ

theorem agr1_set3 {e : EltTy} {R C : ℕ} (X : Vec F (Mx1 R C) e) (T : ℕ → ℕ → Elt F e) (r cc : ℕ) :
    Agr1 (set3 0 X (Blk R C T r cc)) (fun a b => T (r + a) (cc + b)) fun _ _ => True := by
  intro y _
  have : (y 0).val < 1 := (y 0).isLt
  unfold set3
  rw [if_pos (by omega)]
  rfl

theorem Wps.scales {s : ℕ} {J : PUnit → St F → Prop} {st : St F}
    (hss : Agr1 st.sstg (fun r g => at3 i.scale b (s + r) g) fun _ _ => True)
    (hJ : ∀ x, Agr1 x (scT i b s) (fun _ _ => True) → J ⟨⟩ {st with scd := x}) : Wps B c i (Hand.scales B) J st := by
  unfold Hand.scales
  refine Wps.bind (Wps.ld3 r_sstg _ hss (fun _ _ _ _ _ => trivial) ?_)
  refine Wps.st3 w_scd (fun _ => rfl) (T := scT i b s) (S := fun _ _ => False) (fun _ _ => True) (ov1_empty _ _ fun _ _ _ _ h => h).symm ?_
    (fun x z hx hz => ⟨fun _ => .inr ⟨by omega, by omega, by omega, by omega⟩, fun _ => trivial⟩) (hJ _ agr1_ov)
  rw [trans_blk]
  funext y
  show scT i b s _ _ = scT i b s _ _
  simp only [Nat.zero_add]

end chunk

end Cert.KernelIdeal.Hand

end
-- ==== Proof.Chunk.lean ====
/- What the jobs on a chunk of rows leave: both layouts of the matrix's values. -/
module

public import proofs.«01_k».proof.Proof.ChunkJobs

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

attribute [local irreducible] Hand.forN

section chunk
variable {B : Bufs} {c : Dev nD} {i : Inp F} {b : ℕ}

theorem Wps.chunkVal {s : ℕ} {hs : s + 128 ≤ 1536} {hs2 : 2 ∣ s} {J : PUnit → St F → Prop} {st : St F}
    (hsc : Agr1 st.scd (scT i b s) fun _ _ => True) (hcd : Agr1 st.stg (fun r d => at3 i.codes b (s + r) d) fun _ _ => True)
    (hJ : J ⟨⟩ {st with at' := ov1 st.at' (atT i b) (Bx 0 s 2880 128), an := ov1 st.an (anT i b) (Bx s 0 128 2880)}) :
    Wps B c i (do
      Hand.forN 22 (Hand.tBlock B s hs)
      Hand.tLast B s hs
      Hand.forN 22 (Hand.nBlock B s hs hs2)
      Hand.nLast B s hs hs2) J st := by
  refine Wps.bind ?_
  refine Wps.forN (fun k => {st with at' := ov1 st.at' (atT i b) (Bx 0 s (128 * k) 128)}) ?_
    (fun k hk J' hJ' => Wps.tBlock (X := st.at') (by exact hsc) (by exact hcd) rfl hJ') ?_
  · show {st with at' := ov1 st.at' (atT i b) (Bx 0 s 0 128)} = _
    rw [ov1_empty _ _ (fun x z _ _ => by unfold Bx; omega)]
  refine Wps.bind (Wps.tLast (X := st.at') (by exact hsc) (by exact hcd) rfl ?_)
  refine Wps.bind ?_
  refine Wps.forN (fun k => {st with at' := ov1 st.at' (atT i b) (Bx 0 s 2880 128), an := ov1 st.an (anT i b) (Bx s 0 128 (128 * k))}) ?_
    (fun k hk J' hJ' => ?_) ?_
  · show {st with at' := _, an := ov1 st.an (anT i b) (Bx s 0 128 0)} = _
    rw [ov1_empty st.an _ (fun x z _ _ => by unfold Bx; omega)]
  · refine Wps.nBlock (b := b) (X' := st.at') (X := st.an) ?_ ?_ ?_
    · exact rfl
    · exact rfl
    · exact hJ'
  exact Wps.nLast (b := b) (X' := st.at') (X := st.an) rfl rfl hJ

theorem Wps.chunk {t1 : Fin k0_t1_loop.trips} {t2 : Fin k0_t2_loop.trips} {s : ℕ} {hs : s + 128 ≤ 1536} {hs2 : 2 ∣ s}
    (hst : s = 128 * t2.val) {J : PUnit → St F → Prop} {st : St F}
    (hJ : ∀ x1 x2 x3, J ⟨⟩ {st with at' := ov1 st.at' (atT i t1.val) (Bx 0 s 2880 128), an := ov1 st.an (anT i t1.val) (Bx s 0 128 2880), stg := x1, sstg := x2, scd := x3}) :
    Wps B c i (Hand.chunk B t1 t2 s hs hs2) J st := by
  unfold Hand.chunk
  refine Wps.bind (Wps.copyIn ?_)
  have hcd : Agr1 (set3 0 st.stg (Blk 128 2880 (at3 i.codes t1.val) (128 * t2.val) 0)) (fun r d => at3 i.codes t1.val (s + r) d) fun _ _ => True := by
    have := agr1_set3 st.stg (at3 i.codes t1.val) (128 * t2.val) 0
    simp only [Nat.zero_add] at this
    rw [hst]; exact this
  have hss : Agr1 (set3 0 st.sstg (Blk 128 90 (at3 i.scale t1.val) (128 * t2.val) 0)) (fun r d => at3 i.scale t1.val (s + r) d) fun _ _ => True := by
    have := agr1_set3 st.sstg (at3 i.scale t1.val) (128 * t2.val) 0
    simp only [Nat.zero_add] at this
    rw [hst]; exact this
  generalize set3 0 st.stg (Blk 128 2880 (at3 i.codes t1.val) (128 * t2.val) 0) = x1 at hcd ⊢
  generalize set3 0 st.sstg (Blk 128 90 (at3 i.scale t1.val) (128 * t2.val) 0) = x2 at hss ⊢
  refine Wps.bind (Wps.scales (b := t1.val) (s := s) (by exact hss) fun x3 hsc => ?_)
  exact Wps.chunkVal (by exact hsc) (by exact hcd) (hJ x1 x2 x3)

end chunk

end Cert.KernelIdeal.Hand

end
-- ==== Proof.Round.lean ====
/- What the jobs of a round leave: the wide product split in three, its Gram matrix, the product
   with the given factor, and the products with the matrix's columns. -/
module

public import proofs.«01_k».proof.Proof.Chunk

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

attribute [local irreducible] Hand.forN Hand.sumN Hand.gAcc

section tables
variable (L A N : ℕ → ℕ → Elt F .bf16) (Y : ℕ → ℕ → Elt F .bf16) (T : ℕ → ℕ → Elt F .f32) (C Q : ℕ → ℕ → Elt F .bf16)

/-- The tile `n` of the product of `L` with `A`. -/
def yV (n : ℕ) : FVec F S128x256 .f32 :=
  addf (sumV 10 fun k => matmul dot_S128x256_S256x256_S128x256_1_0_0_1_n_n none (Blk 128 256 L 0 (256 * k)) (Blk 256 256 A (256 * k) (256 * n)) (constant S128x256 .f32 0x00000000#32))
    (matmul dot_S128x64_S64x256_S128x256_1_0_0_1_n_n none (Blk 128 64 L 0 2816) (Blk 64 256 A 2816 (256 * n)) (constant S128x256 .f32 0x00000000#32))

/-- The product in three parts, one above the other. -/
def ycT : ℕ → ℕ → Elt F .bf16 := fun r c =>
  if r < 128 then at2 (loP (yV L A (c / 256))) r (c % 256)
  else if r < 256 then at2 (hiP (yV L A (c / 256))) (r - 128) (c % 256)
  else at2 (midP (yV L A (c / 256))) (r - 256) (c % 256)

/-- The two products of the tile `n` for the Gram matrix, and the Gram matrix. -/
def gB (n : ℕ) : FVec F S256x256 .f32 :=
  matmul dot_S256x256_S256x256_S256x256_1_1_0_0_n_n none (Blk 256 256 Y 128 (256 * n)) (Blk 256 256 Y 128 (256 * n)) (constant S256x256 .f32 0x00000000#32)
def gS (n : ℕ) : FVec F S128x128 .f32 :=
  matmul dot_S128x256_S128x256_S128x128_1_1_0_0_n_n none (extractStridedSlice S128x256 ![0, 0] (Blk 256 256 Y 128 (256 * n)) slices_S256x256_o0_0_S128x256)
    (Blk 128 256 Y 0 (256 * n)) (constant S128x128 .f32 0x00000000#32)
def grV : FVec F S128x128 .f32 := gOut (sumV 5 (gB Y)) (sumV 5 (gS Y))

/-- The masked factor, and its parts side by side. -/
def tV : FVec F S128x128 .f32 := masked (Blk 128 128 T 0 0)
def tcT : ℕ → ℕ → Elt F .bf16 := fun r c =>
  if c < 256 then at2 (hiP (tV T)) r (c % 128)
  else if c < 512 then at2 (midP (tV T)) r (c % 128)
  else if c < 640 then at2 (hiP (tV T)) r (c % 128)
  else at2 (loP (tV T)) r (c % 128)

/-- The tile `n` of the product with the factor; the product; the product transposed. -/
def qV (n : ℕ) : FVec F S128x256 .bf16 :=
  qVal (Blk 256 256 Y 128 (256 * n)) (Blk 256 256 Y 0 (256 * n)) (Blk 128 256 C 0 512) (Blk 128 256 C 0 256) (Blk 128 256 C 0 0)
def qtT : ℕ → ℕ → Elt F .bf16 := fun r c => at2 (qV Y C (c / 256)) r (c % 256)
def qsT : ℕ → ℕ → Elt F .bf16 := fun r c => qtT Y C c r

/-- `w` columns of the product of `Q` with the matrix, from column `c`. -/
def wV (c w : ℕ) (d : DotDims (Mx 128 256) (Mx 256 w) (Mx 128 w)) : FVec F (Mx 128 w) .f32 :=
  sumV 5 fun k => matmul d none (Blk 128 256 Q 0 (256 * k)) (Blk 256 w N (256 * k) c) (constant (Mx 128 w) .f32 0x00000000#32)
def wtT : ℕ → ℕ → Elt F .bf16 := fun r c =>
  if c < 2816 then at2 (hiP (wV N Q (256 * (c / 256)) 256 dot_S128x256_S256x256_S128x256_1_0_0_1_n_n)) r (c % 256)
  else at2 (hiP (wV N Q 2816 64 dot_S128x256_S256x64_S128x64_1_0_0_1_n_n)) r (c - 2816)
def bsT : ℕ → ℕ → Elt F .f32 := fun r c =>
  if c < 2816 then at2 (wV N Q (256 * (c / 256)) 256 dot_S128x256_S256x256_S128x256_1_0_0_1_n_n) r (c % 256)
  else at2 (wV N Q 2816 64 dot_S128x256_S256x64_S128x64_1_0_0_1_n_n) r (c - 2816)
end tables

section facts
variable {e : EltTy} {R C : ℕ}
theorem ov_full {X : Vec F (Mx R C) e} {T : ℕ → ℕ → Elt F e} {S : ℕ → ℕ → Prop} (h : ∀ a b, a < R → b < C → S a b) :
    ov X T S = Blk R C T 0 0 := by
  funext y
  unfold ov Blk
  rw [if_pos (h _ _ (y 0).isLt (y 1).isLt), Nat.zero_add, Nat.zero_add]
theorem agr_blk {T : ℕ → ℕ → Elt F e} {S : ℕ → ℕ → Prop} : Agr (Blk R C T 0 0) T S := by
  intro y _
  unfold Blk
  rw [Nat.zero_add, Nat.zero_add]
theorem blk_at2 {h w r c : ℕ} [NeZero R] [NeZero C] (V : Vec F (Mx R C) e) (T : ℕ → ℕ → Elt F e) (hR : h ≤ R) (hC : w ≤ C)
    (hT : ∀ a b, a < h → b < w → T (r + a) (c + b) = at2 V a b) :
    Blk h w T r c = Blk h w (at2 V) 0 0 := by
  funext y
  show T _ _ = at2 V _ _
  rw [hT _ _ (y 0).isLt (y 1).isLt, Nat.zero_add, Nat.zero_add]
theorem eq_blk_at2 [NeZero R] [NeZero C] (V : Vec F (Mx R C) e) : V = Blk R C (at2 V) 0 0 := by
  funext y
  exact at2_eq V y (Nat.zero_add _).symm (Nat.zero_add _).symm
/-- A stored tile is the block of the table that names the tile's entries. -/
theorem tile_blk {r c : ℕ} [NeZero R] [NeZero C] (V : Vec F (Mx R C) e) (T : ℕ → ℕ → Elt F e)
    (hT : ∀ a b, a < R → b < C → T (r + a) (c + b) = at2 V a b) : V = Blk R C T r c :=
  (eq_blk_at2 V).trans (blk_at2 V T (Nat.le_refl _) (Nat.le_refl _) hT).symm
end facts

section round
variable {B : Bufs} {c : Dev nD} {i : Inp F} {L A N Y C Q : ℕ → ℕ → Elt F .bf16}

theorem Wps.yAcc {lhs : Memref sig .tc .vmem S128x2880 .bf16} {getl : St F → Vec F S128x2880 .bf16} (hl : RSlot B c i lhs getl) {n : ℕ} {hn : n < 6}
    {J : FVec F S128x256 .f32 → St F → Prop} {st : St F} (hL : Agr (getl st) L fun _ _ => True) (hA : Agr1 st.at' A fun _ _ => True)
    (hJ : J (yV L A n) st) : Wps B c i (Hand.yAcc B lhs n hn) J st := by
  unfold Hand.yAcc
  refine Wps.bind ?_
  refine Wps.sumN (f := fun k => matmul dot_S128x256_S256x256_S128x256_1_0_0_1_n_n none (Blk 128 256 L 0 (256 * k)) (Blk 256 256 A (256 * k) (256 * n)) (constant S128x256 .f32 0x00000000#32))
    (fun k hk J' hJ' => ?_) ?_
  · refine Wps.bind (Wps.ld2 hl L hL (fun _ _ _ _ _ => trivial) ?_)
    exact Wps.bind (Wps.ld3 r_at A hA (fun _ _ _ _ _ => trivial) (Wps.ret hJ'))
  · refine Wps.bind (Wps.ld2 hl L hL (fun _ _ _ _ _ => trivial) ?_)
    exact Wps.bind (Wps.ld3 r_at A hA (fun _ _ _ _ _ => trivial) (Wps.ret hJ))

theorem ycT_lo {n a b : ℕ} (ha : a < 128) (hb : b < 256) : ycT L A (0 + a) (256 * n + b) = at2 (loP (yV L A n)) a b := by
  unfold ycT
  rw [if_pos (by omega), show (256 * n + b) / 256 = n by omega, show (256 * n + b) % 256 = b by omega, Nat.zero_add]
theorem ycT_hi {n a b : ℕ} (ha : a < 128) (hb : b < 256) : ycT L A (128 + a) (256 * n + b) = at2 (hiP (yV L A n)) a b := by
  unfold ycT
  rw [if_neg (by omega), if_pos (by omega), show (256 * n + b) / 256 = n by omega, show (256 * n + b) % 256 = b by omega, Nat.add_sub_cancel_left]
theorem ycT_mid {n a b : ℕ} (ha : a < 128) (hb : b < 256) : ycT L A (256 + a) (256 * n + b) = at2 (midP (yV L A n)) a b := by
  unfold ycT
  rw [if_neg (by omega), if_neg (by omega), show (256 * n + b) / 256 = n by omega, show (256 * n + b) % 256 = b by omega, Nat.add_sub_cancel_left]

theorem Wps.yTile {lhs : Memref sig .tc .vmem S128x2880 .bf16} {getl : St F → Vec F S128x2880 .bf16} (hl : RSlot B c i lhs getl) {n : ℕ} {hn : n < 6}
    {J : PUnit → St F → Prop} {st : St F} (hL : Agr (getl st) L fun _ _ => True) (hA : Agr1 st.at' A fun _ _ => True)
    {X : Vec F S1x384x1536 .bf16} (hX : st.yc = ov1 X (ycT L A) fun _ z => z < 256 * n)
    (hJ : J ⟨⟩ {st with yc := ov1 X (ycT L A) fun _ z => z < 256 * (n + 1)}) : Wps B c i (Hand.yTile B lhs n hn) J st := by
  unfold Hand.yTile
  refine Wps.bind (Wps.yAcc hl hL hA ?_)
  refine Wps.bind (Wps.st3 w_yc (fun _ => rfl) (X := X) (fun x z => z < 256 * n ∨ Bx 0 (256 * n) 128 256 x z) hX
    (tile_blk _ _ fun a b ha hb => ycT_lo ha hb) (fun _ _ _ _ => Iff.rfl) ?_)
  refine Wps.bind (Wps.st3 w_yc (fun _ => rfl) (X := X) (S := fun x z => z < 256 * n ∨ Bx 0 (256 * n) 128 256 x z)
    (fun x z => (z < 256 * n ∨ Bx 0 (256 * n) 128 256 x z) ∨ Bx 128 (256 * n) 128 256 x z) rfl
    (tile_blk _ _ fun a b ha hb => ycT_hi ha hb) (fun _ _ _ _ => Iff.rfl) ?_)
  refine Wps.st3 w_yc (fun _ => rfl) (X := X) (S := fun x z => (z < 256 * n ∨ Bx 0 (256 * n) 128 256 x z) ∨ Bx 128 (256 * n) 128 256 x z)
    (fun _ z => z < 256 * (n + 1)) rfl
    (tile_blk _ _ fun a b ha hb => ycT_mid ha hb) (fun x z hx hz => by unfold Bx; omega) hJ

theorem Wps.gTile {n : ℕ} {hn : n < 6} {J : FVec F S256x256 .f32 × FVec F S128x128 .f32 → St F → Prop} {st : St F}
    (hY : Agr1 st.yc Y fun _ _ => True) (hJ : J (gB Y n, gS Y n) st) : Wps B c i (Hand.gTile B n hn) J st := by
  unfold Hand.gTile
  refine Wps.bind (Wps.ld3 r_yc Y hY (fun _ _ _ _ _ => trivial) ?_)
  exact Wps.bind (Wps.ld3 r_yc Y hY (fun _ _ _ _ _ => trivial) (Wps.ret hJ))

theorem Wps.gAcc {n : ℕ} {hn : n < 6} {J : FVec F S256x256 .f32 × FVec F S128x128 .f32 → St F → Prop} {st : St F}
    (hY : Agr1 st.yc Y fun _ _ => True) (hJ : J (sumV n (gB Y), sumV n (gS Y)) st) : Wps B c i (Hand.gAcc B n hn) J st := by
  induction n generalizing J with
  | zero => unfold Hand.gAcc; exact Wps.gTile hY hJ
  | succ n ih =>
    unfold Hand.gAcc
    exact Wps.bind (ih (Wps.bind (Wps.gTile hY (Wps.ret hJ))))

theorem Wps.gram {J : PUnit → St F → Prop} {st : St F}
    (hY : Agr1 st.yc Y fun _ _ => True) (hJ : J ⟨⟩ {st with gm := grV Y}) : Wps B c i (Hand.gram B) J st := by
  unfold Hand.gram
  refine Wps.bind (Wps.gAcc hY ?_)
  refine Wps.st2 w_gm (fun _ => rfl) (X := st.gm) (T := at2 (grV Y)) (S := fun _ _ => False) (fun _ _ => True)
    (ov_empty _ _ fun _ _ _ _ h => h).symm (eq_blk_at2 (F := F) (e := .f32) (R := 128) (C := 128) (grV Y)) (fun x z hx hz => ⟨fun _ => .inr ⟨by omega, by omega, by omega, by omega⟩, fun _ => trivial⟩) ?_
  rw [ov_full fun _ _ _ _ => trivial, ← eq_blk_at2]
  exact hJ

theorem Wps.copyG {off : Fin 4 → ℕ} {h} {a k : ℕ} (ho : off = ![a, k, 0, 0]) {J : PUnit → St F → Prop} {st : St F}
    (hJ : J ⟨⟩ {st with g := set4 a k st.g (Blk 120 120 (at2 st.gm) 0 0)}) : Wps B c i (Hand.copyG B off h) J st := by
  unfold Hand.copyG
  exact Wps.copy c_gm_g (src2 c B.gm _ _) (dst4 c B.g off h (fun _ => rfl) squeezes_S1x1x120x120_S120x120 ho)
    (View.dmaCredit_pos _ (pos2 (by omega) (by omega))) hJ

theorem Wps.copyT {off : Fin 4 → ℕ} {h} {a k : ℕ} (ho : off = ![a, k, 0, 0]) {J : PUnit → St F → Prop} {st : St F}
    (hJ : J ⟨⟩ {st with tm := Blk 128 128 (at4 i.tinv a k) 0 0}) : Wps B c i (Hand.copyT B off h) J st := by
  unfold Hand.copyT
  exact Wps.copy c_tinv_tm (src4 c B.tinv off h (fun _ => rfl) squeezes_S1x1x128x128_S128x128 ho) (dst_whole c B.tm)
    (View.dmaCredit_pos _ (pos2 (by omega) (by omega))) hJ

theorem Wps.finish {T : ℕ → ℕ → Elt F .f32} {J : PUnit → St F → Prop} {st : St F} (hT : st.tm = Blk 128 128 T 0 0)
    (hJ : J ⟨⟩ {st with tc := Blk 128 768 (tcT T) 0 0}) : Wps B c i (Hand.finish B) J st := by
  unfold Hand.finish
  refine Wps.bind (Wps.ld2 r_tm T (S := fun _ _ => True) (by rw [hT]; exact agr_blk) (fun _ _ _ _ _ => trivial) ?_)
  have h0 : st.tc = ov st.tc (tcT T) (fun _ z => z < 0) := (ov_empty _ _ fun _ _ _ _ h => absurd h (Nat.not_lt_zero _)).symm
  refine Wps.bind (Wps.st2 w_tc (fun _ => rfl) (X := st.tc) (fun _ z => z < 128) h0
    (tile_blk (F := F) (e := .bf16) (R := 128) (C := 128) (hiP (tV T)) (tcT T) fun a b ha hb => ?_) (fun x z hx hz => by unfold Bx; omega) ?_)
  · unfold tcT; rw [if_pos (by omega), show (0 + b) % 128 = b by omega, Nat.zero_add]
  change Wps B c i _ J {st with tc := ov st.tc (tcT T) fun _ z => z < 128}
  refine Wps.bind (Wps.st2 w_tc (fun _ => rfl) (X := st.tc) (T := tcT T) (S := fun _ z => z < 128) (fun _ z => z < 256) rfl
    (tile_blk (F := F) (e := .bf16) (R := 128) (C := 128) (hiP (tV T)) (tcT T) fun a b ha hb => ?_) (fun x z hx hz => by unfold Bx; omega) ?_)
  · unfold tcT; rw [if_pos (by omega), show (128 + b) % 128 = b by omega, Nat.zero_add]
  change Wps B c i _ J {st with tc := ov st.tc (tcT T) fun _ z => z < 256}
  refine Wps.bind (Wps.st2 w_tc (fun _ => rfl) (X := st.tc) (T := tcT T) (S := fun _ z => z < 256) (fun _ z => z < 384) rfl
    (tile_blk (F := F) (e := .bf16) (R := 128) (C := 128) (midP (tV T)) (tcT T) fun a b ha hb => ?_) (fun x z hx hz => by unfold Bx; omega) ?_)
  · unfold tcT; rw [if_neg (by omega), if_pos (by omega), show (256 + b) % 128 = b by omega, Nat.zero_add]
  change Wps B c i _ J {st with tc := ov st.tc (tcT T) fun _ z => z < 384}
  refine Wps.bind (Wps.st2 w_tc (fun _ => rfl) (X := st.tc) (T := tcT T) (S := fun _ z => z < 384) (fun _ z => z < 512) rfl
    (tile_blk (F := F) (e := .bf16) (R := 128) (C := 128) (midP (tV T)) (tcT T) fun a b ha hb => ?_) (fun x z hx hz => by unfold Bx; omega) ?_)
  · unfold tcT; rw [if_neg (by omega), if_pos (by omega), show (384 + b) % 128 = b by omega, Nat.zero_add]
  change Wps B c i _ J {st with tc := ov st.tc (tcT T) fun _ z => z < 512}
  refine Wps.bind (Wps.st2 w_tc (fun _ => rfl) (X := st.tc) (T := tcT T) (S := fun _ z => z < 512) (fun _ z => z < 640) rfl
    (tile_blk (F := F) (e := .bf16) (R := 128) (C := 128) (hiP (tV T)) (tcT T) fun a b ha hb => ?_) (fun x z hx hz => by unfold Bx; omega) ?_)
  · unfold tcT; rw [if_neg (by omega), if_neg (by omega), if_pos (by omega), show (512 + b) % 128 = b by omega, Nat.zero_add]
  change Wps B c i _ J {st with tc := ov st.tc (tcT T) fun _ z => z < 640}
  refine Wps.st2 w_tc (fun _ => rfl) (X := st.tc) (T := tcT T) (S := fun _ z => z < 640) (fun _ z => z < 768) rfl
    (tile_blk (F := F) (e := .bf16) (R := 128) (C := 128) (loP (tV T)) (tcT T) fun a b ha hb => ?_) (fun x z hx hz => by unfold Bx; omega) ?_
  · unfold tcT; rw [if_neg (by omega), if_neg (by omega), if_neg (by omega), show (640 + b) % 128 = b by omega, Nat.zero_add]
  change J ⟨⟩ {st with tc := ov st.tc (tcT T) fun _ z => z < 768}
  have e := ov_full (X := st.tc) (T := tcT T) (S := fun _ z => z < 768) fun _ _ _ h => h
  rw [e]
  exact hJ

theorem Wps.qTile {n : ℕ} {hn : n < 6} {J : PUnit → St F → Prop} {st : St F}
    (hY : Agr1 st.yc Y fun _ _ => True) (hC : Agr st.tc C fun _ _ => True)
    {X : Vec F S128x1536 .bf16} (hX : st.qt = ov X (qtT Y C) fun _ z => z < 256 * n)
    {X' : Vec F S1536x120 .bf16} (hX' : st.qst = ov X' (qsT Y C) fun x _ => x < 256 * n)
    (hJ : J ⟨⟩ {st with qt := ov X (qtT Y C) fun _ z => z < 256 * (n + 1), qst := ov X' (qsT Y C) fun x _ => x < 256 * (n + 1)}) :
    Wps B c i (Hand.qTile B n hn) J st := by
  unfold Hand.qTile
  refine Wps.bind (Wps.ld3 r_yc Y hY (fun _ _ _ _ _ => trivial) ?_)
  refine Wps.bind (Wps.ld3 r_yc Y hY (fun _ _ _ _ _ => trivial) ?_)
  refine Wps.bind (Wps.ld2 r_tc C hC (fun _ _ _ _ _ => trivial) ?_)
  refine Wps.bind (Wps.ld2 r_tc C hC (fun _ _ _ _ _ => trivial) ?_)
  refine Wps.bind (Wps.ld2 r_tc C hC (fun _ _ _ _ _ => trivial) ?_)
  have hq : qV Y C n = Blk 128 256 (qtT Y C) 0 (256 * n) := tile_blk (F := F) (e := .bf16) (R := 128) (C := 256) (qV Y C n) (qtT Y C) fun a b ha hb => by
    unfold qtT; rw [show (256 * n + b) / 256 = n by omega, show (256 * n + b) % 256 = b by omega, Nat.zero_add]
  refine Wps.bind (Wps.st2 w_qt (fun _ => rfl) (X := X) (fun _ z => z < 256 * (n + 1)) hX hq (fun x z hx hz => by unfold Bx; omega) ?_)
  refine Wps.st2 w_qst (fun _ => rfl) (X := X') (T := qsT Y C) (S := fun x _ => x < 256 * n) (fun x _ => x < 256 * (n + 1)) hX' ?_ (fun x z hx hz => by unfold Bx; omega) hJ
  show extractStridedSlice S256x120 ![0, 0] (transpose S256x128 [1, 0] (qV Y C n) _) _ = _
  rw [hq, trans_blk]
  funext y
  show qtT Y C (0 + (0 + (y 1).val)) (256 * n + (0 + (y 0).val)) = qtT Y C (0 + (y 1).val) (256 * n + (y 0).val)
  simp only [Nat.zero_add]

theorem Wps.wAcc {cc w : ℕ} {hc : cc + w ≤ 2880} {hw : 0 < w} {d : DotDims (Mx 128 256) (Mx 256 w) (Mx 128 w)} {J : FVec F (Mx 128 w) .f32 → St F → Prop}
    {st : St F} (hQ : Agr st.qt Q fun _ _ => True) (hN : Agr1 st.an N fun _ _ => True) (hJ : J (wV N Q cc w d) st) :
    Wps B c i (Hand.wAcc B cc w hc hw d) J st := by
  unfold Hand.wAcc
  refine Wps.sumN (f := fun k => matmul d none (Blk 128 256 Q 0 (256 * k)) (Blk 256 w N (256 * k) cc) (constant (Mx 128 w) .f32 0x00000000#32))
    (fun k hk J' hJ' => ?_) hJ
  refine Wps.bind (Wps.ld2 r_qt Q hQ (fun _ _ _ _ _ => trivial) ?_)
  exact Wps.bind (Wps.ld3 r_an N hN (fun _ _ _ _ _ => trivial) (Wps.ret hJ'))

theorem Wps.wTile {cc w : ℕ} {hc : cc + w ≤ 2880} {hw : 0 < w} {d : DotDims (Mx 128 256) (Mx 256 w) (Mx 128 w)} {J : PUnit → St F → Prop}
    {st : St F} (hQ : Agr st.qt Q fun _ _ => True) (hN : Agr1 st.an N fun _ _ => True)
    {X : Vec F S128x2880 .bf16} (hX : st.wt = ov X (wtT N Q) fun _ z => z < cc)
    (hT : hiP (wV N Q cc w d) = Blk 128 w (wtT N Q) 0 cc)
    (hJ : J ⟨⟩ {st with wt := ov X (wtT N Q) fun _ z => z < cc + w}) : Wps B c i (Hand.wTile B cc w hc hw d) J st := by
  unfold Hand.wTile
  refine Wps.bind (Wps.wAcc hQ hN ?_)
  exact Wps.st2 w_wt (fun _ => rfl) (X := X) (fun _ z => z < cc + w) hX hT (fun x z hx hz => by unfold Bx; omega) hJ

theorem Wps.bTile {cc w : ℕ} {hc : cc + w ≤ 2880} {hw : 0 < w} {d : DotDims (Mx 128 256) (Mx 256 w) (Mx 128 w)} {J : PUnit → St F → Prop}
    {st : St F} (hQ : Agr st.qt Q fun _ _ => True) (hN : Agr1 st.an N fun _ _ => True)
    {X : Vec F S120x2880 .f32} (hX : st.bst = ov X (bsT N Q) fun _ z => z < cc)
    (hT : wV N Q cc w d = Blk 128 w (bsT N Q) 0 cc)
    (hJ : J ⟨⟩ {st with bst := ov X (bsT N Q) fun _ z => z < cc + w}) : Wps B c i (Hand.bTile B cc w hc hw d) J st := by
  unfold Hand.bTile
  refine Wps.bind (Wps.wAcc hQ hN ?_)
  refine Wps.st2 w_bst (fun _ => rfl) (X := X) (fun _ z => z < cc + w) hX ?_ (fun x z hx hz => by unfold Bx; omega) hJ
  rw [hT]
  funext y
  show bsT N Q (0 + (0 + (y 0).val)) (cc + (0 + (y 1).val)) = bsT N Q (0 + (y 0).val) (cc + (y 1).val)
  simp only [Nat.zero_add]

theorem Wps.wAll {J : PUnit → St F → Prop} {st : St F} (hQ : Agr st.qt Q fun _ _ => True) (hN : Agr1 st.an N fun _ _ => True)
    (hJ : J ⟨⟩ {st with wt := Blk 128 2880 (wtT N Q) 0 0}) : Wps B c i (Hand.wAll B) J st := by
  unfold Hand.wAll
  refine Wps.bind ?_
  refine Wps.forN (fun n => {st with wt := ov st.wt (wtT N Q) fun _ z => z < 256 * n}) ?_ (fun n hn J' hJ' => ?_) ?_
  · rw [ov_empty st.wt _ fun _ _ _ _ h => absurd h (Nat.not_lt_zero _)]
  · refine Wps.wTile (N := N) (Q := Q) (X := st.wt) (by exact hQ) (by exact hN) rfl (tile_blk (F := F) (e := .bf16) (R := 128) (C := 256) (hiP (wV N Q (256 * n) 256 dot_S128x256_S256x256_S128x256_1_0_0_1_n_n)) (wtT N Q) fun a b ha hb => ?_) hJ'
    unfold wtT
    rw [if_pos (by omega), show (256 * n + b) / 256 = n by omega, show (256 * n + b) % 256 = b by omega, Nat.zero_add]
  · refine Wps.wTile (N := N) (Q := Q) (X := st.wt) (by exact hQ) (by exact hN) rfl (tile_blk (F := F) (e := .bf16) (R := 128) (C := 64) (hiP (wV N Q 2816 64 dot_S128x256_S256x64_S128x64_1_0_0_1_n_n)) (wtT N Q) fun a b ha hb => ?_) ?_
    · unfold wtT
      rw [if_neg (by omega), Nat.add_sub_cancel_left, Nat.zero_add]
    · rw [ov_full (S := fun _ z => z < 2816 + 64) fun _ _ _ h => h]; exact hJ

theorem Wps.bAll {J : PUnit → St F → Prop} {st : St F} (hQ : Agr st.qt Q fun _ _ => True) (hN : Agr1 st.an N fun _ _ => True)
    (hJ : J ⟨⟩ {st with bst := Blk 120 2880 (bsT N Q) 0 0}) : Wps B c i (Hand.bAll B) J st := by
  unfold Hand.bAll
  refine Wps.bind ?_
  refine Wps.forN (fun n => {st with bst := ov st.bst (bsT N Q) fun _ z => z < 256 * n}) ?_ (fun n hn J' hJ' => ?_) ?_
  · rw [ov_empty st.bst _ fun _ _ _ _ h => absurd h (Nat.not_lt_zero _)]
  · refine Wps.bTile (N := N) (Q := Q) (X := st.bst) (by exact hQ) (by exact hN) rfl (tile_blk (F := F) (e := .f32) (R := 128) (C := 256) (wV N Q (256 * n) 256 dot_S128x256_S256x256_S128x256_1_0_0_1_n_n) (bsT N Q) fun a b ha hb => ?_) hJ'
    unfold bsT
    rw [if_pos (by omega), show (256 * n + b) / 256 = n by omega, show (256 * n + b) % 256 = b by omega, Nat.zero_add]
  · refine Wps.bTile (N := N) (Q := Q) (X := st.bst) (by exact hQ) (by exact hN) rfl (tile_blk (F := F) (e := .f32) (R := 128) (C := 64) (wV N Q 2816 64 dot_S128x256_S256x64_S128x64_1_0_0_1_n_n) (bsT N Q) fun a b ha hb => ?_) ?_
    · unfold bsT
      rw [if_neg (by omega), Nat.add_sub_cancel_left, Nat.zero_add]
    · rw [ov_full (S := fun _ z => z < 2816 + 64) fun _ _ _ h => h]; exact hJ

end round

end Cert.KernelIdeal.Hand

end
-- ==== Proof.Body.lean ====
/- What the whole body leaves: every result as a table of values of the given arrays. -/
module

public import proofs.«01_k».proof.Proof.Round

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Facts₀ Facts

variable {F : FTy → Type} [FloatOps F] [Facts]

attribute [local irreducible] Hand.forN Hand.sumN Hand.gAcc

section tables
variable (i : Inp F) (b : ℕ)

/-- The parts of the batch's factor `k`. -/
def fcT (k : ℕ) : ℕ → ℕ → Elt F .bf16 := tcT (at4 i.tinv b k)
/-- The split wide products of the three rounds, the factors they give, and the narrow products between. -/
def y0T : ℕ → ℕ → Elt F .bf16 := ycT (omT i) (atT i b)
def w0T : ℕ → ℕ → Elt F .bf16 := wtT (anT i b) (qtT (y0T i b) (fcT i b 0))
def y1T : ℕ → ℕ → Elt F .bf16 := ycT (w0T i b) (atT i b)
def w1T : ℕ → ℕ → Elt F .bf16 := wtT (anT i b) (qtT (y1T i b) (fcT i b 1))
def y2T : ℕ → ℕ → Elt F .bf16 := ycT (w1T i b) (atT i b)
/-- The last product. -/
def bT : ℕ → ℕ → Elt F .f32 := bsT (anT i b) (qtT (y2T i b) (fcT i b 2))
/-- The Gram matrices. -/
def grT (k : ℕ) : ℕ → ℕ → Elt F .f32 :=
  at2 (grV (if k = 0 then y0T i b else if k = 1 then y1T i b else y2T i b))
end tables

section body
variable {B : Bufs} {c : Dev nD} {i : Inp F} {L A N Y C Q : ℕ → ℕ → Elt F .bf16}

theorem Wps.copyQ {m : Memref sig .tc .hbm S6x1536x120 .bf16} {hm : m.IsWhole} {t1 : Fin k0_t1_loop.trips} {getm : St F → Vec F S6x1536x120 .bf16} {setm}
    (hk : CSlot B c i B.qst m (cell B 3 inb_S7_S1_3) (·.qst) getm setm) {J : PUnit → St F → Prop} {st : St F}
    (hJ : J ⟨⟩ (setm st (set3 t1.val (getm st) st.qst))) : Wps B c i (Hand.copyQ B m hm t1) J st := by
  unfold Hand.copyQ
  exact Wps.copy hk (src_whole c B.qst) (dst3 c m (k0_off231 t1) (k0_off231_inb t1) (fun _ => rfl) squeezes_S1x1536x120_S1536x120 (Gen.k0_off231_eq t1))
    (View.dmaCredit_pos _ (pos2 (by omega) (by omega))) hJ

theorem Wps.copyB {t1 : Fin k0_t1_loop.trips} {J : PUnit → St F → Prop} {st : St F}
    (hJ : J ⟨⟩ {st with b := set3 t1.val st.b st.bst}) : Wps B c i (Hand.copyB B t1) J st := by
  unfold Hand.copyB
  exact Wps.copy c_bst_b (src_whole c B.bst) (dst3 c B.b (k0_off236 t1) (k0_off236_inb t1) (fun _ => rfl) squeezes_S1x120x2880_S120x2880 (Gen.k0_off236_eq t1))
    (View.dmaCredit_pos _ (pos2 (by omega) (by omega))) hJ

/-- What a round leaves before its factor is copied out. -/
structure Post (a k : ℕ) (Y C : ℕ → ℕ → Elt F .bf16) (st st' : St F) : Prop where
  q : st'.q = st.q
  b : st'.b = st.b
  q0 : st'.q0 = st.q0
  q1 : st'.q1 = st.q1
  g : st'.g = set4 a k st.g (Blk 120 120 (at2 (grV Y)) 0 0)
  at' : st'.at' = st.at'
  an : st'.an = st.an
  omt : st'.omt = st.omt
  qt : st'.qt = Blk 128 1536 (qtT Y C) 0 0
  qst : st'.qst = Blk 1536 120 (qsT Y C) 0 0

theorem Wps.round {lhs : Memref sig .tc .vmem S128x2880 .bf16} {getl : St F → Vec F S128x2880 .bf16} (hl : RSlot B c i lhs getl)
    (hyc : ∀ st x, getl {st with yc := x} = getl st)
    {og : Fin 4 → ℕ} {hg} {ot : Fin 4 → ℕ} {ht} {a k : ℕ} (hog : og = ![a, k, 0, 0]) (hot : ot = ![a, k, 0, 0])
    {m : Memref sig .tc .hbm S6x1536x120 .bf16} {hm : m.IsWhole} {t1 : Fin k0_t1_loop.trips}
    {J : PUnit → St F → Prop} {st : St F} (hL : Agr (getl st) L fun _ _ => True) (hA : Agr1 st.at' A fun _ _ => True)
    (hJ : ∀ st', Post a k (ycT L A) (tcT (at4 i.tinv a k)) st st' → Wps B c i (Hand.copyQ B m hm t1) J st') :
    Wps B c i (Hand.round B lhs og hg ot ht m hm t1) J st := by
  unfold Hand.round
  refine Wps.bind ?_
  refine Wps.forN (fun n => {st with yc := ov1 st.yc (ycT L A) fun _ z => z < 256 * n}) ?_ (fun n hn J' hJ' => ?_) ?_
  · rw [ov1_empty st.yc _ fun _ _ _ _ h => absurd h (Nat.not_lt_zero _)]
  · exact Wps.yTile hl (by rw [hyc]; exact hL) (by exact hA) (X := st.yc) rfl hJ'
  have hY : Agr1 (ov1 st.yc (ycT L A) fun _ z => z < 256 * 6) (ycT L A) fun _ _ => True :=
    agr1_ov.mono fun _ _ _ h _ => h
  generalize ov1 st.yc (ycT L A) (fun _ z => z < 256 * 6) = yc at hY ⊢
  refine Wps.bind (Wps.gram (Y := ycT L A) (by exact hY) ?_)
  refine Wps.bind (Wps.copyG hog ?_)
  refine Wps.bind (Wps.copyT hot ?_)
  change Wps B c i _ _ {st with yc := yc, gm := grV (ycT L A), g := set4 a k st.g (Blk 120 120 (at2 (grV (ycT L A))) 0 0), tm := Blk 128 128 (at4 i.tinv a k) 0 0}
  refine Wps.bind (Wps.finish (T := at4 i.tinv a k) rfl ?_)
  change Wps B c i _ _ {st with yc := yc, gm := grV (ycT L A), g := set4 a k st.g (Blk 120 120 (at2 (grV (ycT L A))) 0 0), tm := Blk 128 128 (at4 i.tinv a k) 0 0, tc := Blk 128 768 (tcT (at4 i.tinv a k)) 0 0}
  refine Wps.bind ?_
  refine Wps.forN (fun n => {st with
    yc := yc, gm := grV (ycT L A), g := set4 a k st.g (Blk 120 120 (at2 (grV (ycT L A))) 0 0), tm := Blk 128 128 (at4 i.tinv a k) 0 0,
    tc := Blk 128 768 (tcT (at4 i.tinv a k)) 0 0,
    qt := ov st.qt (qtT (ycT L A) (tcT (at4 i.tinv a k))) fun _ z => z < 256 * n,
    qst := ov st.qst (qsT (ycT L A) (tcT (at4 i.tinv a k))) fun x _ => x < 256 * n}) ?_ (fun n hn J' hJ' => ?_) ?_
  · rw [ov_empty st.qt _ fun _ _ _ _ h => absurd h (Nat.not_lt_zero _), ov_empty st.qst _ fun _ _ _ _ h => absurd h (Nat.not_lt_zero _)]
  · exact Wps.qTile (Y := ycT L A) (C := tcT (at4 i.tinv a k)) (X := st.qt) (X' := st.qst) (by exact hY)
      (show Agr (F := F) (e := .bf16) (R := 128) (C := 768) (Blk 128 768 (tcT (at4 i.tinv a k)) 0 0) _ _ from agr_blk) rfl rfl hJ'
  exact hJ _ ⟨rfl, rfl, rfl, rfl, rfl, rfl, rfl, rfl, by exact ov_full fun _ _ _ h => h, by exact ov_full fun _ _ h _ => h⟩

/-- What the rounds of a batch leave. -/
structure BPost (i : Inp F) (a : ℕ) (st st' : St F) : Prop where
  q : st'.q = set3 a st.q (Blk 1536 120 (qsT (y2T i a) (fcT i a 2)) 0 0)
  b : st'.b = set3 a st.b (Blk 120 2880 (bT i a) 0 0)
  q0 : st'.q0 = set3 a st.q0 (Blk 1536 120 (qsT (y0T i a) (fcT i a 0)) 0 0)
  q1 : st'.q1 = set3 a st.q1 (Blk 1536 120 (qsT (y1T i a) (fcT i a 1)) 0 0)
  g : st'.g = set4 a 2 (set4 a 1 (set4 a 0 st.g (Blk 120 120 (grT i a 0) 0 0)) (Blk 120 120 (grT i a 1) 0 0)) (Blk 120 120 (grT i a 2) 0 0)
  omt : st'.omt = st.omt

theorem Wps.rounds {t1 : Fin k0_t1_loop.trips} {J : PUnit → St F → Prop} {st : St F} (hom : st.omt = Blk 128 2880 (omT i) 0 0)
    (hat : Agr1 st.at' (atT i t1.val) fun _ _ => True) (han : Agr1 st.an (anT i t1.val) fun _ _ => True)
    (hJ : ∀ st', BPost i t1.val st st' → J ⟨⟩ st') : Wps B c i (Hand.rounds B t1) J st := by
  unfold Hand.rounds
  refine Wps.bind (Wps.round (L := omT i) (A := atT i t1.val) r_omt (fun _ _ => rfl) (Gen.k0_off229_eq t1) (Gen.k0_off230_eq t1)
    (by rw [hom]; exact agr_blk) hat fun s1 p1 => Wps.copyQ c_qst_q0 ?_)
  refine Wps.bind (Wps.wAll (N := anT i t1.val) (Q := qtT (y0T i t1.val) (fcT i t1.val 0)) (by rw [show _ = s1.qt from rfl, p1.qt]; exact agr_blk)
    (by rw [show _ = s1.an from rfl, p1.an]; exact han) ?_)
  change Wps B c i _ _ {s1 with q0 := set3 t1.val s1.q0 s1.qst, wt := Blk 128 2880 (w0T i t1.val) 0 0}
  refine Wps.bind (Wps.round (L := w0T i t1.val) (A := atT i t1.val) r_wt (fun _ _ => rfl) (Gen.k0_off232_eq t1) (Gen.k0_off233_eq t1)
    (show Agr (F := F) (e := .bf16) (R := 128) (C := 2880) (Blk 128 2880 (w0T i t1.val) 0 0) _ _ from agr_blk) (by rw [show _ = s1.at' from rfl, p1.at']; exact hat) fun s2 p2 => Wps.copyQ c_qst_q1 ?_)
  have an2 : s2.an = st.an := p2.an.trans p1.an
  have at2' : s2.at' = st.at' := p2.at'.trans p1.at'
  refine Wps.bind (Wps.wAll (N := anT i t1.val) (Q := qtT (y1T i t1.val) (fcT i t1.val 1)) (by rw [show _ = s2.qt from rfl, p2.qt]; exact agr_blk)
    (by rw [show _ = s2.an from rfl, an2]; exact han) ?_)
  change Wps B c i _ _ {s2 with q1 := set3 t1.val s2.q1 s2.qst, wt := Blk 128 2880 (w1T i t1.val) 0 0}
  refine Wps.bind (Wps.round (L := w1T i t1.val) (A := atT i t1.val) r_wt (fun _ _ => rfl) (Gen.k0_off234_eq t1) (Gen.k0_off235_eq t1)
    (show Agr (F := F) (e := .bf16) (R := 128) (C := 2880) (Blk 128 2880 (w1T i t1.val) 0 0) _ _ from agr_blk) (by rw [show _ = s2.at' from rfl, at2']; exact hat) fun s3 p3 => Wps.copyQ c_qst_q ?_)
  have an3 : s3.an = st.an := p3.an.trans an2
  refine Wps.bind (Wps.bAll (N := anT i t1.val) (Q := qtT (y2T i t1.val) (fcT i t1.val 2)) (by rw [show _ = s3.qt from rfl, p3.qt]; exact agr_blk)
    (by rw [show _ = s3.an from rfl, an3]; exact han) ?_)
  change Wps B c i _ _ {s3 with q := set3 t1.val s3.q s3.qst, bst := Blk 120 2880 (bT i t1.val) 0 0}
  refine Wps.copyB ?_
  refine hJ _ ⟨?_, ?_, ?_, ?_, ?_, ?_⟩
  · show set3 t1.val s3.q s3.qst = _
    rw [p3.q, p3.qst]; show set3 t1.val s2.q _ = _
    rw [p2.q]; show set3 t1.val s1.q _ = _
    rw [p1.q]; rfl
  · show set3 t1.val s3.b _ = _
    rw [p3.b]; show set3 t1.val s2.b _ = _
    rw [p2.b]; show set3 t1.val s1.b _ = _
    rw [p1.b]
  · show s3.q0 = _
    rw [p3.q0]; show s2.q0 = _
    rw [p2.q0]; show set3 t1.val s1.q0 s1.qst = _
    rw [p1.q0, p1.qst]; rfl
  · show s3.q1 = _
    rw [p3.q1]; show set3 t1.val s2.q1 s2.qst = _
    rw [p2.q1, p2.qst]; show set3 t1.val s1.q1 _ = _
    rw [p1.q1]; rfl
  · show s3.g = _
    rw [p3.g]; show set4 _ _ s2.g _ = _
    rw [p2.g]; show set4 _ _ (set4 _ _ s1.g _) _ = _
    rw [p1.g]; rfl
  · show s3.omt = _
    rw [p3.omt]; show s2.omt = _
    rw [p2.omt]; show s1.omt = _
    exact p1.omt

/-- The prologue after the embedding has arrived. -/
def turnOm (B : Bufs) : P F PUnit := do
  forN 22 fun k hk => do
    let v ← Hand.ld2 B.om (128 * k) 0 128 120 (by omega) (by omega) (by omega) (by omega)
    Hand.st2 B.omt 0 (128 * k) 120 128 (by omega) (by omega) (by omega) (by omega) (ok2 B.homt (by omega) (by omega) (by omega) (by omega))
      (transpose S120x128 [1, 0] v transposes_S128x120_p1_0_S120x128)
  let v ← Hand.ld2 B.om 2816 0 64 120 (by omega) (by omega) (by omega) (by omega)
  Hand.st2 B.omt 0 2816 120 64 (by omega) (by omega) (by omega) (by omega) (ok2 B.homt (by omega) (by omega) (by omega) (by omega))
    (transpose S120x64 [1, 0] v (transposesM 64 120))
  Hand.st2 B.omt 120 0 8 2880 (by omega) (by omega) (by omega) (by omega) (ok2 B.homt (by omega) (by omega) (by omega) (by omega))
    (broadcast S8x2880 (Scalar.ofBits .bf16 0x0000#16))

theorem Wps.turnOm {J : PUnit → St F → Prop} {st : St F} (hi : st.om = i.omega)
    (hJ : ∀ st', st'.omt = Blk 128 2880 (omT i) 0 0 → J ⟨⟩ st') : Wps B c i (Hand.turnOm B) J st := by
  unfold Hand.turnOm
  have hom : Agr st.om (at2 i.omega) fun _ _ => True := fun y _ => by rw [hi]; exact at2_eq _ y rfl rfl
  refine Wps.bind ?_
  refine Wps.forN (fun n => {st with omt := ov st.omt (omT i) fun x z => x < 120 ∧ z < 128 * n}) ?_ (fun n hn J' hJ' => ?_) ?_
  · rw [ov_empty st.omt _ fun _ _ _ _ h => absurd h.2 (Nat.not_lt_zero _)]
  · refine Wps.bind (Wps.ld2 r_om (at2 i.omega) (by exact hom) (fun _ _ _ _ _ => trivial) ?_)
    refine Wps.st2 w_omt (fun _ => rfl) (X := st.omt) (T := omT i) (S := fun x z => x < 120 ∧ z < 128 * n) (fun x z => x < 120 ∧ z < 128 * (n + 1)) rfl
      ((trans_blk _ _).trans ?_) (fun x z hx hz => by unfold Bx; omega) hJ'
    funext y
    have h0 : (y 0).val < 120 := (y 0).isLt
    show at2 i.omega _ _ = omT i _ _
    unfold omT
    rw [if_pos (by omega)]
  refine Wps.bind (Wps.ld2 r_om (at2 i.omega) (by exact hom) (fun _ _ _ _ _ => trivial) ?_)
  refine Wps.bind (Wps.st2 w_omt (fun _ => rfl) (X := st.omt) (T := omT i) (S := fun x z => x < 120 ∧ z < 128 * 22) (fun x z => x < 120) rfl
      ((trans_blk _ _).trans ?_) (fun x z hx hz => by unfold Bx; omega) ?_)
  · funext y
    have h0 : (y 0).val < 120 := (y 0).isLt
    show at2 i.omega _ _ = omT i _ _
    unfold omT
    rw [if_pos (by omega)]
  change Wps B c i _ _ {st with omt := ov st.omt (omT i) fun x z => x < 120}
  refine Wps.st2 w_omt (fun _ => rfl) (X := st.omt) (T := omT i) (S := fun x z => x < 120) (fun x z => x < 128) rfl
      ?_ (fun x z hx hz => by unfold Bx; omega) ?_
  · funext y
    show _ = omT i _ _
    unfold omT
    rw [if_neg (by omega)]
    rfl
  · exact hJ _ (ov_full fun _ _ h _ => h)

theorem Wps.prologue {J : PUnit → St F → Prop} {st : St F} (hJ : ∀ st', st'.omt = Blk 128 2880 (omT i) 0 0 → J ⟨⟩ st') :
    Wps B c i (Hand.prologue B) J st := by
  unfold Hand.prologue
  exact Wps.copyOm (k := fun (_ : PUnit.{1}) => Hand.turnOm B) fun X => Wps.turnOm rfl hJ

/-- The results of the first `n` batches are the tables' values. -/
structure Done (i : Inp F) (n : ℕ) (st : St F) : Prop where
  q : ∀ y, (y 0).val < n → st.q y = qsT (y2T i (y 0).val) (fcT i (y 0).val 2) (y 1).val (y 2).val
  b : ∀ y, (y 0).val < n → st.b y = bT i (y 0).val (y 1).val (y 2).val
  q0 : ∀ y, (y 0).val < n → st.q0 y = qsT (y0T i (y 0).val) (fcT i (y 0).val 0) (y 1).val (y 2).val
  q1 : ∀ y, (y 0).val < n → st.q1 y = qsT (y1T i (y 0).val) (fcT i (y 0).val 1) (y 1).val (y 2).val
  g : ∀ y, (y 0).val < n → st.g y = grT i (y 0).val (y 1).val (y 2).val (y 3).val

theorem set3_done {e : EltTy} {l m n k : ℕ} {X : (⟨3, ![l, m, n]⟩ : Shape).Idx → Elt F e} {T : ℕ → ℕ → ℕ → Elt F e}
    (h : ∀ y, (y 0).val < k → X y = T (y 0).val (y 1).val (y 2).val) (y) (hy : (y 0).val < k + 1) :
    set3 k X (Blk m n (T k) 0 0) y = T (y 0).val (y 1).val (y 2).val := by
  unfold set3
  by_cases hk : (y 0).val = k
  · rw [if_pos hk, hk]
    show T k (0 + (y 1).val) (0 + (y 2).val) = _
    rw [Nat.zero_add, Nat.zero_add]
  · rw [if_neg hk]; exact h y (by omega)

theorem BPost.done {k : ℕ} {st st' : St F} (p : BPost i k st st') (h : Done i k st) : Done i (k + 1) st' := by
  refine ⟨?_, ?_, ?_, ?_, ?_⟩
  · rw [p.q]; exact set3_done (T := fun b => qsT (y2T i b) (fcT i b 2)) h.q
  · rw [p.b]; exact set3_done (T := bT i) h.b
  · rw [p.q0]; exact set3_done (T := fun b => qsT (y0T i b) (fcT i b 0)) h.q0
  · rw [p.q1]; exact set3_done (T := fun b => qsT (y1T i b) (fcT i b 1)) h.q1
  · rw [p.g]
    intro y hy
    have h1 : (y 1).val < 3 := (y 1).isLt
    have hb : ∀ j, Blk 120 120 (grT i k j) 0 0 (ix2 (y 2) (y 3)) = grT i k j (y 2).val (y 3).val := fun j => by
      show grT i k j (0 + (y 2).val) (0 + (y 3).val) = _
      rw [Nat.zero_add, Nat.zero_add]
    unfold set4
    by_cases hk : (y 0).val = k
    · rw [hk]
      by_cases h2 : (y 1).val = 2
      · rw [if_pos ⟨rfl, h2⟩, hb, h2]
      · rw [if_neg fun h => h2 h.2]
        by_cases h2 : (y 1).val = 1
        · rw [if_pos ⟨rfl, h2⟩, hb, h2]
        · rw [if_neg fun h => h2 h.2, if_pos ⟨rfl, by omega⟩, hb, show (y 1).val = 0 by omega]
    · rw [if_neg fun h => hk h.1, if_neg fun h => hk h.1, if_neg fun h => hk h.1]
      exact h.g y (by omega)

theorem agr1_step {e : EltTy} {R C : ℕ} {X : Vec F (Mx1 R C) e} {T : ℕ → ℕ → Elt F e} {S S' S'' : ℕ → ℕ → Prop} (h : Agr1 X T S)
    (hS : ∀ a b, a < R → b < C → S'' a b → S a b ∨ S' a b) : Agr1 (ov1 X T S') T S'' := by
  intro y hy
  unfold ov1
  by_cases h' : S' (y 1).val (y 2).val
  · rw [if_pos h']
  · rw [if_neg h']
    exact h y ((hS _ _ (y 1).isLt (y 2).isLt hy).resolve_right h')

theorem trips1 : k0_t1_loop.trips = 6 := by decide +kernel
theorem trips2 : k0_t2_loop.trips = 12 := by decide +kernel
theorem chunkOff_eq : ∀ t2, chunkOff t2 = 128 * t2.val := by decide +kernel
theorem chunkOff_le (t2 : Fin k0_t2_loop.trips) : chunkOff t2 + 128 ≤ 1536 := by
  have : t2.val < 12 := trips2 ▸ t2.isLt
  rw [chunkOff_eq]; omega
theorem chunkOff_even (t2 : Fin k0_t2_loop.trips) : 2 ∣ chunkOff t2 := by
  rw [chunkOff_eq]; omega

/-- After `n` chunks of the batch. -/
structure CInv (i : Inp F) (b n : ℕ) (st st' : St F) : Prop where
  at' : Agr1 st'.at' (atT i b) fun _ z => z < 128 * n
  an : Agr1 st'.an (anT i b) fun x _ => x < 128 * n
  q : st'.q = st.q
  b : st'.b = st.b
  q0 : st'.q0 = st.q0
  q1 : st'.q1 = st.q1
  g : st'.g = st.g
  omt : st'.omt = st.omt

theorem Wps.body {st : St F} : Wps B c i (Hand.body B chunkOff_le chunkOff_even) (fun (_ : PUnit.{1}) st' => Done i 6 st') st := by
  unfold Hand.body
  refine Wps.bind (Wps.prologue fun s0 h0 => ?_)
  refine Wps.bind ?_
  refine Wps.loop (fun n s => Done i n s ∧ s.omt = Blk 128 2880 (omT i) 0 0) ⟨⟨?_, ?_, ?_, ?_, ?_⟩, h0⟩ (fun t1 s1 h1 => ?_) (fun s h => ?_)
  iterate 5 exact fun _ h => absurd h (Nat.not_lt_zero _)
  · refine Wps.bind ?_
    refine Wps.loop (fun n s => CInv i t1.val n s1 s) ⟨fun _ h => absurd h (Nat.not_lt_zero _), fun _ h => absurd h (Nat.not_lt_zero _), rfl, rfl, rfl, rfl, rfl, rfl⟩
      (fun t2 s2 h2 => ?_) (fun s2 h2 => ?_)
    · refine Wps.chunk (chunkOff_eq t2) fun x1 x2 x3 => ?_
      exact ⟨agr1_step h2.at' fun x z hx hz h => by rw [chunkOff_eq]; unfold Bx; omega,
        agr1_step h2.an fun x z hx hz h => by rw [chunkOff_eq]; unfold Bx; omega, h2.q, h2.b, h2.q0, h2.q1, h2.g, h2.omt⟩
    · have hn : 128 * Scf.trips k0_t2_loop.lb k0_t2_loop.ub k0_t2_loop.st = 1536 := by
        have := trips2; unfold Scf.Loop.trips at this; rw [this]
      refine Wps.rounds (h2.omt.trans h1.2) (h2.at'.mono fun x z hx hz _ => by rw [hn]; exact hz) (h2.an.mono fun x z hx hz _ => by rw [hn]; exact hx)
        fun s3 p => ⟨p.done ?_, p.omt.trans (h2.omt.trans h1.2)⟩
      exact ⟨h2.q ▸ h1.1.q, h2.b ▸ h1.1.b, h2.q0 ▸ h1.1.q0, h2.q1 ▸ h1.1.q1, h2.g ▸ h1.1.g⟩
  · refine Wps.ret ?_
    have := trips1; unfold Scf.Loop.trips at this
    rw [this] at h
    exact h.1

end body

end Cert.KernelIdeal.Hand

end
-- ==== Proof.Launch.lean ====
/- The kernel's launch: from any memory with the semaphores at zero the program ends with its arguments
   as they were, its results at the tables' values, and the semaphores at zero. -/
module

public import proofs.«01_k».proof.Proof.BodyEq
public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Routed

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The buffers the program calls the body on. -/
def B₀ : Bufs where
  codes := Memref.whole main_arg0
  hcodes := Memref.isWhole_whole _
  scale := Memref.whole main_arg1
  hscale := Memref.isWhole_whole _
  omega := Memref.whole main_arg2
  homega := Memref.isWhole_whole _
  tinv := Memref.whole main_arg3
  htinv := Memref.isWhole_whole _
  q := Memref.whole main_v0_0
  hq := Memref.isWhole_whole _
  b := Memref.whole main_v0_1
  hb := Memref.isWhole_whole _
  q0 := Memref.whole main_v0_2
  hq0 := Memref.isWhole_whole _
  q1 := Memref.whole main_v0_3
  hq1 := Memref.isWhole_whole _
  g := Memref.whole main_v0_4
  hg := Memref.isWhole_whole _
  at' := Memref.whole cc0_scratch0
  hat := Memref.isWhole_whole _
  an := Memref.whole cc0_scratch1
  han := Memref.isWhole_whole _
  stg := Memref.whole cc0_scratch2
  hstg := Memref.isWhole_whole _
  sstg := Memref.whole cc0_scratch3
  hsstg := Memref.isWhole_whole _
  scd := Memref.whole cc0_scratch4
  hscd := Memref.isWhole_whole _
  om := Memref.whole cc0_scratch5
  hom := Memref.isWhole_whole _
  omt := Memref.whole cc0_scratch6
  homt := Memref.isWhole_whole _
  wt := Memref.whole cc0_scratch7
  hwt := Memref.isWhole_whole _
  qt := Memref.whole cc0_scratch8
  hqt := Memref.isWhole_whole _
  yc := Memref.whole cc0_scratch9
  hyc := Memref.isWhole_whole _
  gm := Memref.whole cc0_scratch10
  hgm := Memref.isWhole_whole _
  tm := Memref.whole cc0_scratch11
  htm := Memref.isWhole_whole _
  tc := Memref.whole cc0_scratch12
  htc := Memref.isWhole_whole _
  qst := Memref.whole cc0_scratch13
  hqst := Memref.isWhole_whole _
  bst := Memref.whole cc0_scratch14
  hbst := Memref.isWhole_whole _
  sem := cc0_scratch15

variable (m : (ℓ : Loc nD τ sig) → Buf (Elt F) ℓ) (ρ : Dev nD → PrngReg)

/-- The arrays core `c` is given. -/
def inp (c : Dev nD) : Inp F where
  codes := m ((c : Thread nD τ).loc main_arg0)
  scale := m ((c : Thread nD τ).loc main_arg1)
  omega := m ((c : Thread nD τ).loc main_arg2)
  tinv := m ((c : Thread nD τ).loc main_arg3)

/-- `Own` at these buffers, the waits left out. -/
def Held (c : Dev nD) (i : Inp F) (st : St F) : sProp 𝕄 :=
  iprop((((c : Thread nD τ).loc main_arg0) ↦{fullShare} i.codes)
    ∗ (((c : Thread nD τ).loc main_arg1) ↦{fullShare} i.scale)
    ∗ (((c : Thread nD τ).loc main_arg2) ↦{fullShare} i.omega)
    ∗ (((c : Thread nD τ).loc main_arg3) ↦{fullShare} i.tinv)
    ∗ (((c : Thread nD τ).loc main_v0_0) ↦{fullShare} st.q)
    ∗ (((c : Thread nD τ).loc main_v0_1) ↦{fullShare} st.b)
    ∗ (((c : Thread nD τ).loc main_v0_2) ↦{fullShare} st.q0)
    ∗ (((c : Thread nD τ).loc main_v0_3) ↦{fullShare} st.q1)
    ∗ (((c : Thread nD τ).loc main_v0_4) ↦{fullShare} st.g)
    ∗ (((c : Thread nD τ).loc cc0_scratch0) ↦{fullShare} st.at')
    ∗ (((c : Thread nD τ).loc cc0_scratch1) ↦{fullShare} st.an)
    ∗ (((c : Thread nD τ).loc cc0_scratch2) ↦{fullShare} st.stg)
    ∗ (((c : Thread nD τ).loc cc0_scratch3) ↦{fullShare} st.sstg)
    ∗ (((c : Thread nD τ).loc cc0_scratch4) ↦{fullShare} st.scd)
    ∗ (((c : Thread nD τ).loc cc0_scratch5) ↦{fullShare} st.om)
    ∗ (((c : Thread nD τ).loc cc0_scratch6) ↦{fullShare} st.omt)
    ∗ (((c : Thread nD τ).loc cc0_scratch7) ↦{fullShare} st.wt)
    ∗ (((c : Thread nD τ).loc cc0_scratch8) ↦{fullShare} st.qt)
    ∗ (((c : Thread nD τ).loc cc0_scratch9) ↦{fullShare} st.yc)
    ∗ (((c : Thread nD τ).loc cc0_scratch10) ↦{fullShare} st.gm)
    ∗ (((c : Thread nD τ).loc cc0_scratch11) ↦{fullShare} st.tm)
    ∗ (((c : Thread nD τ).loc cc0_scratch12) ↦{fullShare} st.tc)
    ∗ (((c : Thread nD τ).loc cc0_scratch13) ↦{fullShare} st.qst)
    ∗ (((c : Thread nD τ).loc cc0_scratch14) ↦{fullShare} st.bst)
    ∗ semVal ((c : Thread nD τ), SemLoc.dma 0) 0
    ∗ semVal ((c : Thread nD τ), SemLoc.dma 1) 0
    ∗ semVal ((c : Thread nD τ), SemLoc.dma 2) 0
    ∗ semVal ((c : Thread nD τ), SemLoc.dma 3) 0
    ∗ semVal ((c : Thread nD τ), SemLoc.dma 4) 0
    ∗ semVal ((c : Thread nD τ), SemLoc.dma 5) 0
    ∗ semVal ((c : Thread nD τ), SemLoc.dma 6) 0)

theorem own_eq (c : Dev nD) (i : Inp F) (st : St F) :
    (Own B₀ c i st : sProp 𝕄) = iprop((((c : Thread nD τ).loc main_arg0) ↦{fullShare} i.codes)
    ∗ (((c : Thread nD τ).loc main_arg1) ↦{fullShare} i.scale)
    ∗ (((c : Thread nD τ).loc main_arg2) ↦{fullShare} i.omega)
    ∗ (((c : Thread nD τ).loc main_arg3) ↦{fullShare} i.tinv)
    ∗ (((c : Thread nD τ).loc main_v0_0) ↦{fullShare} st.q)
    ∗ (((c : Thread nD τ).loc main_v0_1) ↦{fullShare} st.b)
    ∗ (((c : Thread nD τ).loc main_v0_2) ↦{fullShare} st.q0)
    ∗ (((c : Thread nD τ).loc main_v0_3) ↦{fullShare} st.q1)
    ∗ (((c : Thread nD τ).loc main_v0_4) ↦{fullShare} st.g)
    ∗ (((c : Thread nD τ).loc cc0_scratch0) ↦{fullShare} st.at')
    ∗ (((c : Thread nD τ).loc cc0_scratch1) ↦{fullShare} st.an)
    ∗ (((c : Thread nD τ).loc cc0_scratch2) ↦{fullShare} st.stg)
    ∗ (((c : Thread nD τ).loc cc0_scratch3) ↦{fullShare} st.sstg)
    ∗ (((c : Thread nD τ).loc cc0_scratch4) ↦{fullShare} st.scd)
    ∗ (((c : Thread nD τ).loc cc0_scratch5) ↦{fullShare} st.om)
    ∗ (((c : Thread nD τ).loc cc0_scratch6) ↦{fullShare} st.omt)
    ∗ (((c : Thread nD τ).loc cc0_scratch7) ↦{fullShare} st.wt)
    ∗ (((c : Thread nD τ).loc cc0_scratch8) ↦{fullShare} st.qt)
    ∗ (((c : Thread nD τ).loc cc0_scratch9) ↦{fullShare} st.yc)
    ∗ (((c : Thread nD τ).loc cc0_scratch10) ↦{fullShare} st.gm)
    ∗ (((c : Thread nD τ).loc cc0_scratch11) ↦{fullShare} st.tm)
    ∗ (((c : Thread nD τ).loc cc0_scratch12) ↦{fullShare} st.tc)
    ∗ (((c : Thread nD τ).loc cc0_scratch13) ↦{fullShare} st.qst)
    ∗ (((c : Thread nD τ).loc cc0_scratch14) ↦{fullShare} st.bst)
    ∗ semVal ((c : Thread nD τ), SemLoc.dma 0) 0
    ∗ semVal ((c : Thread nD τ), SemLoc.dma 1) 0
    ∗ semVal ((c : Thread nD τ), SemLoc.dma 2) 0
    ∗ semVal ((c : Thread nD τ), SemLoc.dma 3) 0
    ∗ semVal ((c : Thread nD τ), SemLoc.dma 4) 0
    ∗ semVal ((c : Thread nD τ), SemLoc.dma 5) 0
    ∗ semVal ((c : Thread nD τ), SemLoc.dma 6) 0
    ∗ (∃ W, owes (c : Thread nD τ) 0 W)) := by
  unfold Own B₀
  simp only [owns_whole]
  rfl

theorem own_of_held (c : Dev nD) (i : Inp F) (st : St F) : iprop(Held c i st ∗ (∃ W, owes (c : Thread nD τ) 0 W)) ⊢ (Own B₀ c i st : sProp 𝕄) := by
  rw [own_eq]; unfold Held
  iintro ⟨⟨H0, H1, H2, H3, H4, H5, H6, H7, H8, H9, H10, H11, H12, H13, H14, H15, H16, H17, H18, H19, H20, H21, H22, H23, Q0, Q1, Q2, Q3, Q4, Q5, Q6⟩, HW⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  iexact HW

theorem held_of_own (c : Dev nD) (i : Inp F) (st : St F) : (Own B₀ c i st : sProp 𝕄) ⊢ iprop(Held c i st ∗ (∃ W, owes (c : Thread nD τ) 0 W)) := by
  rw [own_eq]; unfold Held
  iintro ⟨H0, H1, H2, H3, H4, H5, H6, H7, H8, H9, H10, H11, H12, H13, H14, H15, H16, H17, H18, H19, H20, H21, H22, H23, Q0, Q1, Q2, Q3, Q4, Q5, Q6, HW⟩
  isplitr [HW]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [Q0]; · iexact Q0
    isplitl [Q1]; · iexact Q1
    isplitl [Q2]; · iexact Q2
    isplitl [Q3]; · iexact Q3
    isplitl [Q4]; · iexact Q4
    isplitl [Q5]; · iexact Q5
    iexact Q6
  iexact HW

def osem : Fin 7 → SemLoc sig := fun j => (![SemLoc.dma 0, SemLoc.dma 1, SemLoc.dma 2, SemLoc.dma 3, SemLoc.dma 4, SemLoc.dma 5, SemLoc.dma 6] : Fin 7 → SemLoc sig) j
theorem ownSemFacts : Pipeline.OwnSemFacts cfg0.spec osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0) := by
  rw [Pipeline.ownSems0_eq_of_list c osem [0, 1, 2, 3, 4, 5, 6] (by decide) (by decide)]; rfl

set_option maxHeartbeats 1000000 in
theorem bodyAt_eq' (t : Fin cfg0.N) : bodyAt0 (F := F) t = cc0_rangefinder (F := F) B₀.codes B₀.hcodes B₀.scale B₀.hscale B₀.omega B₀.homega B₀.tinv B₀.htinv B₀.q B₀.hq B₀.b B₀.hb B₀.q0 B₀.hq0 B₀.q1 B₀.hq1 B₀.g B₀.hg B₀.at' B₀.hat B₀.an B₀.han B₀.stg B₀.hstg B₀.sstg B₀.hsstg B₀.scd B₀.hscd B₀.om B₀.hom B₀.omt B₀.homt B₀.wt B₀.hwt B₀.qt B₀.hqt B₀.yc B₀.hyc B₀.gm B₀.hgm B₀.tm B₀.htm B₀.tc B₀.htc B₀.qst B₀.hqst B₀.bst B₀.hbst B₀.sem := by sl_kernel_rfl

theorem bodyAt_eq (t : Fin cfg0.N) : bodyAt0 (F := F) t = Hand.body B₀ chunkOff_le chunkOff_even :=
  (bodyAt_eq' t).trans (body_eq B₀ chunkOff_le chunkOff_even)

theorem body_wps (c : Dev nD) (i : Inp F) (st : St F) {p : P F PUnit.{1}} (h : p = Hand.body B₀ chunkOff_le chunkOff_even) :
    Wps B₀ c i p (fun (_ : PUnit.{1}) st' => Done i 6 st') st := by
  rw [h]
  exact Wps.body (F := F) (B := B₀) (c := c) (i := i) (st := st)

theorem wp_of_wps {c : Dev nD} {i : Inp F} {st : St F} {p : P F PUnit.{1}} (h : Wps B₀ c i p (fun (_ : PUnit.{1}) st' => Done i 6 st') st) :
    (Own B₀ c i st : sProp 𝕄) ⊢ Wp c p (fun _ => iprop(∃ st', ⌜Done i 6 st'⌝ ∗ Own B₀ c i st')) := h

/-- The body from any contents of the results and the scratch buffers. -/
theorem body_wp (c : Dev nD) (i : Inp F) (st : St F) (t : Fin cfg0.N) :
    (Own B₀ c i st : sProp 𝕄) ⊢ Wp c (bodyAt0 t) (fun _ => iprop(∃ st', ⌜Done i 6 st'⌝ ∗ Own B₀ c i st')) :=
  wp_of_wps (body_wps c i st (bodyAt_eq t))

/-- What the region's one point carries in and out. -/
def Φ (c : Dev nD) (n : ℕ) : sProp 𝕄 := iprop(∃ st : St F, ⌜n = 1 → Done (inp m c) 6 st⌝ ∗ Held c (inp m c) st)

def dats (_ : Fin 1) (c : Dev nD) : Dat τ (Elt F) Unit ℕ (Pipeline.UD sig nD τ) ℕ cfg0 c where
  A w := w.elim0
  after w := w.elim0
  Φ t := Φ m c t.val
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [show (dats m 0 c).Φ t.castSucc = Φ m c t.val from rfl, show (dats m 0 c).Φ t.succ = Φ m c (t.val + 1) from rfl]
  unfold Dat.owesAt Pipeline.owesWithin Hand.Φ
  rw [show (dats m 0 c).owed t.castSucc = 0 from rfl, show (dats m 0 c).owed t.succ = 0 from rfl]
  iintro ⟨⟨%st, -, HH⟩, ⟨%W, -, HW⟩⟩
  iapply (show _ from (body_wp c (inp m c) st t).trans (wp_mono _ _ _ (Q' := fun _ => iprop((∃ st : St F, ⌜t.val + 1 = 1 → Done (inp m c) 6 st⌝ ∗ Held c (inp m c) st) ∗ (∃ W', ⌜_⌝ ∗ owes (c : Thread nD τ) 0 W'))) fun _ => by
    iintro ⟨%st', %hd, HO⟩
    ihave HO' := (held_of_own c (inp m c) st') $$ HO
    icases HO' with ⟨HH, ⟨%W', HW'⟩⟩
    isplitl [HH]
    · iexists st'
      isplitr; · ipureintro; exact fun _ => hd
      iexact HH
    iexists W'; isplitr; · ipureintro; exact fun _ _ => Or.inl trivial
    iexact HW'))
  iapply (own_of_held c (inp m c) st)
  isplitl [HH]; · iexact HH
  iexists W; iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  show iprop(_ ∗ _ ∗ bigSep (Finset.univ : Finset (Fin 0)) _) ⊢ wp _ _ _ _ fun _ => iprop(_ ∗ _ ∗ bigSep (Finset.univ : Finset (Fin 0)) _)
  rw [show (Finset.univ : Finset (Fin 0)) = ∅ from rfl, bigSep_empty, bigSep_empty]
  refine BIBase.Entails.trans ?_ ((sound_body m c t).trans (wp_mono _ _ _ fun _ => ?_))
  · iintro ⟨H1, H2, -⟩
    isplitl [H1]; · iexact H1
    iexact H2
  · iintro ⟨H1, H2⟩
    isplitl [H1]; · iexact H1
    isplitl [H2]; · iexact H2
    iempintro

abbrev V (c : Dev nD) (b : Ref sig .tc) : Buf (Elt F) ((c : Thread nD τ).loc b) := m ((c : Thread nD τ).loc b)

theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- What the program leaves on core `c`. -/
def Left (c : Dev nD) (s : MemSt nD τ sig (Elt F)) : Prop :=
  (∃ st : St F, Done (inp m c) 6 st ∧ s.mem ((c : Thread nD τ).loc main_v0_0) = st.q ∧ s.mem ((c : Thread nD τ).loc main_v0_1) = st.b ∧ s.mem ((c : Thread nD τ).loc main_v0_2) = st.q0 ∧ s.mem ((c : Thread nD τ).loc main_v0_3) = st.q1 ∧ s.mem ((c : Thread nD τ).loc main_v0_4) = st.g)
  ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3)

/-- The arguments and the results, as the kernel leaves them. -/
def Ends (c : Dev nD) : sProp 𝕄 := iprop(∃ st : St F, ⌜Done (inp m c) 6 st⌝ ∗ (((c : Thread nD τ).loc main_arg0) ↦{fullShare} (inp m c).codes) ∗ (((c : Thread nD τ).loc main_arg1) ↦{fullShare} (inp m c).scale) ∗ (((c : Thread nD τ).loc main_arg2) ↦{fullShare} (inp m c).omega) ∗ (((c : Thread nD τ).loc main_arg3) ↦{fullShare} (inp m c).tinv) ∗ (((c : Thread nD τ).loc main_v0_0) ↦{fullShare} st.q) ∗ (((c : Thread nD τ).loc main_v0_1) ↦{fullShare} st.b) ∗ (((c : Thread nD τ).loc main_v0_2) ↦{fullShare} st.q0) ∗ (((c : Thread nD τ).loc main_v0_3) ↦{fullShare} st.q1) ∗ (((c : Thread nD τ).loc main_v0_4) ↦{fullShare} st.g))

theorem phi_in (c : Dev nD) : iprop((Pipeline.unscopedRest cfg0.spec c (V m c) ∗ Pipeline.ownSems0 osem c) ∗ Pipeline.scopedRest cfg0.spec c) ⊢ (Φ m c 0 : sProp 𝕄) := by
  rw [unscopedRest0_eq, ownSems_eq, scopedRest0_eq]
  unfold Hand.Φ Held
  iintro ⟨⟨⟨H0, H1, H2, H3, H4, H5, H6, H7, H8⟩, ⟨Q0, Q1, Q2, Q3, Q4, Q5, Q6⟩⟩, ⟨%f0, H9⟩, ⟨%f1, H10⟩, ⟨%f2, H11⟩, ⟨%f3, H12⟩, ⟨%f4, H13⟩, ⟨%f5, H14⟩, ⟨%f6, H15⟩, ⟨%f7, H16⟩, ⟨%f8, H17⟩, ⟨%f9, H18⟩, ⟨%f10, H19⟩, ⟨%f11, H20⟩, ⟨%f12, H21⟩, ⟨%f13, H22⟩, ⟨%f14, H23⟩⟩
  iexists (⟨m ((c : Thread nD τ).loc main_v0_0), m ((c : Thread nD τ).loc main_v0_1), m ((c : Thread nD τ).loc main_v0_2), m ((c : Thread nD τ).loc main_v0_3), m ((c : Thread nD τ).loc main_v0_4), f0, f1, f2, f3, f4, f5, f6, f7, f8, f9, f10, f11, f12, f13, f14⟩ : St F)
  isplitr; · ipureintro; exact fun h => absurd h Nat.zero_ne_one
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [Q0]; · iexact Q0
  isplitl [Q1]; · iexact Q1
  isplitl [Q2]; · iexact Q2
  isplitl [Q3]; · iexact Q3
  isplitl [Q4]; · iexact Q4
  isplitl [Q5]; · iexact Q5
  iexact Q6

theorem phi_out (c : Dev nD) : (Φ m c 1 : sProp 𝕄) ⊢ iprop(Ends m c ∗ Pipeline.ownSems0 osem c ∗ Pipeline.scopedRest cfg0.spec c) := by
  rw [ownSems_eq, scopedRest0_eq]
  unfold Hand.Φ Held Hand.Ends
  iintro ⟨%st, %hd, H0, H1, H2, H3, H4, H5, H6, H7, H8, H9, H10, H11, H12, H13, H14, H15, H16, H17, H18, H19, H20, H21, H22, H23, Q0, Q1, Q2, Q3, Q4, Q5, Q6⟩
  isplitl [H0 H1 H2 H3 H4 H5 H6 H7 H8]
  · iexists st
    isplitr; · ipureintro; exact hd rfl
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Q0 Q1 Q2 Q3 Q4 Q5 Q6]
  · isplitl [Q0]; · iexact Q0
    isplitl [Q1]; · iexact Q1
    isplitl [Q2]; · iexact Q2
    isplitl [Q3]; · iexact Q3
    isplitl [Q4]; · iexact Q4
    isplitl [Q5]; · iexact Q5
    iexact Q6
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

set_option backward.isDefEq.respectTransparency.types false in
theorem run_main : θ_run defs (onTc (τ := τ) (main (F := F))) ⟨m, fun _ => 0, ρ⟩ (fun r => (∀ c, Left m c r.2) ∧ r.2.sem = fun _ => 0) :=
  Pipeline.θ_run_region_kit_quiescent cfgs (dats m) () (0 : Fin 1) launch0 ownSemFacts embL defs₀ Variants.none m ρ main
    (hbody := fun c => (body_obligation m c).loose) (hshare := fun c => (dats m 0 c).share_full fun _ => rfl)
    (howed := fun _ _ => rfl)
    (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m) (hA := fun _ w => w.elim0)
    (X := fun c => iprop(Pipeline.unscopedRest cfg0.spec c (V m c) ∗ Pipeline.ownSems0 osem c)) (Y := fun c => Ends m c) (Z := fun _ => iprop(emp))
    (hX := fun c => by
      iintro ⟨Hur, Hos, -, -, -⟩
      imodintro
      isplitl [Hur Hos]
      · isplitl [Hur]; · iexact Hur
        iexact Hos
      iempintro)
    (hin := fun c => phi_in m c) (hout := fun c => phi_out m c)
    (QY := fun c s => Left m c s)
    (hY := fun c s' => by
      unfold Hand.Ends
      iintro ⟨⟨%st, %hd, H0, H1, H2, H3, H4, H5, H6, H7, H8⟩, -, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      imodintro
      isplitr
      · ipureintro
        exact ⟨⟨st, hd, Buf.eq_of_forall_mem_univ h4, Buf.eq_of_forall_mem_univ h5, Buf.eq_of_forall_mem_univ h6, Buf.eq_of_forall_mem_univ h7, Buf.eq_of_forall_mem_univ h8⟩, Buf.eq_of_forall_mem_univ h0, Buf.eq_of_forall_mem_univ h1, Buf.eq_of_forall_mem_univ h2, Buf.eq_of_forall_mem_univ h3⟩
      iexact HSI)
    (hQ := fun _ h hz => ⟨fun c => (h c).2, hz⟩)

end Cert.KernelIdeal.Hand

end
-- ==== Proof.Frames.lean ====
/- The frames. The kernel as compiled and the kernel read at the extended reals are one program text, so what is
   proved of the second at every choice of float values is, read at the compiled ones, what is claimed of the first. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Tactic

@[expose] public section

noncomputable section

namespace Cert.Frames

open Idealize.ShloMosaic Idealize.ShloMosaic.TcCoe Idealize.ShloMosaic.Tactic Idealize.SL.Sem

/-- The frame of the kernel's text at any float values. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameAt (F : FTy → Type) [FloatOps F] : FrameAt F := fun m g _ =>
  (θ_run (Cert.KernelIdeal.defs (F := F)) _ _).mono (fun _ h => ⟨fun c => (h.1 c).2, h.2⟩) (Cert.KernelIdeal.Hand.run_main (F := F) m g)

theorem kernelIdeal : Cert.quiescent_KernelIdeal := frameAt Ideal

theorem kernel_eq : FrameAt Bits = Cert.quiescent_Kernel := by sl_kernel_rfl

theorem kernel : Cert.quiescent_Kernel := Eq.mp kernel_eq (frameAt Bits)

/-- The reference declares no semaphore, so every counter is at zero at its end. -/
theorem referenceIdeal : Cert.quiescent_ReferenceIdeal := fun m g _ =>
  (θ_run (Cert.ReferenceIdeal.defs (F := Ideal)) _ _).mono
    (fun _ h => ⟨fun c => (h c).2.2.2.2.2, sem_eq_zero_of_no_sems rfl _⟩)
    (Cert.ReferenceIdeal.Value.run (F := Ideal) m g)

end Cert.Frames

end
-- ==== Proof.Sums.lean ====
/- The kernel's tables over the extended reals: a product over tiles is one sum, and the three parts of a finite number
   are the number and two zeros. -/
module

public import proofs.«01_k».proof.Proof.Body
public import Idealize.ShloMosaic.Lib.MatmulPlain
public import Idealize.ShloMosaic.Lib.WordCmp
public import Idealize.ShloMosaic.PureOps.Ideal.Laws

@[expose] public section

noncomputable section

namespace Cert.KernelIdeal.Hand

open Idealize.ShloMosaic Idealize.ShloMosaic.ValueIdx
open Facts₀ Facts

variable [Facts]

/-- A finite number. -/
def Fi (x : EReal) : Prop := ∃ r : ℝ, x = (r : EReal)

theorem Fi.mul {x y : EReal} (hx : Fi x) (hy : Fi y) : Fi (x * y) := by
  obtain ⟨a, rfl⟩ := hx
  obtain ⟨b, rfl⟩ := hy
  exact ⟨a * b, (EReal.coe_mul a b).symm⟩
theorem Fi.zero : Fi 0 := ⟨0, EReal.coe_zero.symm⟩
theorem Fi.add {x y : EReal} (hx : Fi x) (hy : Fi y) : Fi (x + y) := by
  obtain ⟨a, rfl⟩ := hx
  obtain ⟨b, rfl⟩ := hy
  exact ⟨a + b, (EReal.coe_add a b).symm⟩
theorem Fi.sum {n : ℕ} {f : ℕ → EReal} (h : ∀ k, k < n → Fi (f k)) : Fi (∑ k ∈ Finset.range n, f k) := by
  induction n with
  | zero => exact Fi.zero
  | succ n ih =>
    rw [Finset.sum_range_succ]
    exact (ih fun k hk => h k (Nat.lt_succ_of_lt hk)).add (h n (Nat.lt_succ_self n))
theorem Fi.sub_self {x : EReal} (hx : Fi x) : x - x = 0 := by
  obtain ⟨a, rfl⟩ := hx
  rw [← EReal.coe_sub, _root_.sub_self, EReal.coe_zero]
theorem Fi.of_abs_lt {x : EReal} (h : max x (-x) < ⊤) : Fi x := by
  induction x using EReal.rec with
  | bot => exact absurd (lt_of_le_of_lt (le_max_right _ _) h) (by simp)
  | top => exact absurd (lt_of_le_of_lt (le_max_left _ _) h) (by simp)
  | coe r => exact ⟨r, rfl⟩

/-- Sums over blocks are one sum. -/
theorem sum_blocks (w : ℕ) (g : ℕ → EReal) (n : ℕ) :
    ∑ k ∈ Finset.range n, ∑ j ∈ Finset.range w, g (w * k + j) = ∑ k ∈ Finset.range (w * n), g k := by
  induction n with
  | zero => simp
  | succ n ih =>
    rw [Finset.sum_range_succ, ih, Nat.mul_succ, Finset.sum_range_add]

theorem sumV_apply {s : Shape} (n : ℕ) (f : ℕ → FVec Ideal s .f32) (j : s.Idx) :
    sumV (F := Ideal) n f j = ∑ k ∈ Finset.range (n + 1), f k j := by
  induction n with
  | zero => rw [Finset.sum_range_one]; rfl
  | succ n ih =>
    rw [Finset.sum_range_succ, ← ih]; rfl

section parts
variable {s : Shape} (x : FVec Ideal s .f32) (j : s.Idx)
theorem hiP_apply : hiP (F := Ideal) x j = x j := rfl
theorem midP_apply (h : Fi (x j)) : midP (F := Ideal) x j = (0 : EReal) := h.sub_self
theorem loP_apply (h : Fi (x j)) : loP (F := Ideal) x j = (0 : EReal) := by
  show (x j - x j) - (x j - x j) = (0 : EReal)
  rw [h.sub_self]
  exact Fi.zero.sub_self
end parts

theorem const0 {s : Shape} (j : s.Idx) : constant (F := Ideal) s .f32 0x00000000#32 j = (0 : EReal) := Ideal.ofBits_zero_f32

/-- A product of blocks of two tables. -/
theorem mm_plain {M K N : ℕ} (d : DotDims (Mx M K) (Mx K N) (Mx M N)) (hd : d = DotDims.plain M K N)
    (L A : ℕ → ℕ → EReal) (r c p q : ℕ) (x : Fin M) (z : Fin N) :
    matmul (F := Ideal) (φ₁ := .bf16) (φ₂ := .bf16) d none (Blk (F := Ideal) (e := .bf16) M K L r c) (Blk (F := Ideal) (e := .bf16) K N A p q) (constant (Mx M N) .f32 0x00000000#32) (ix2 x z)
      = ∑ k ∈ Finset.range K, L (r + x.val) (c + k) * A (p + k) (q + z.val) := by
  subst hd
  rw [Finset.sum_range]
  refine (Ideal.matmul_plain_apply none _ _ _ x z).trans ?_
  rw [const0, zero_add]
  rfl

theorem mm_trans {M K N : ℕ} (d : DotDims (Mx M K) (Mx N K) (Mx M N)) (hd : d = DotDims.transposedRhs M K N)
    (L A : ℕ → ℕ → EReal) (r c p q : ℕ) (x : Fin M) (z : Fin N) :
    matmul (F := Ideal) (φ₁ := .bf16) (φ₂ := .bf16) d none (Blk (F := Ideal) (e := .bf16) M K L r c) (Blk (F := Ideal) (e := .bf16) N K A p q) (constant (Mx M N) .f32 0x00000000#32) (ix2 x z)
      = ∑ k ∈ Finset.range K, L (r + x.val) (c + k) * A (p + z.val) (q + k) := by
  subst hd
  rw [Finset.sum_range]
  refine (Ideal.matmul_transposedRhs_apply none _ _ _ x z).trans ?_
  rw [const0, zero_add]
  rfl

/-! ## The tables as sums -/

section tables
variable (L A N Y C Q : ℕ → ℕ → EReal)

theorem yV_apply (n : ℕ) (x : Fin 128) (z : Fin 256) :
    yV (F := Ideal) L A n (ix2 x z) = ∑ k ∈ Finset.range 2880, L x.val k * A k (256 * n + z.val) := by
  show (sumV (F := Ideal) 10 _ (ix2 x z) + _ : EReal) = _
  rw [sumV_apply, mm_plain dot_S128x64_S64x256_S128x256_1_0_0_1_n_n rfl, show (2880 : ℕ) = 256 * 11 + 64 from rfl, Finset.sum_range_add (fun k => L x.val k * A k (256 * n + z.val)) (256 * 11) 64, ← sum_blocks]
  refine congrArg₂ (· + ·) (Finset.sum_congr rfl fun k _ => ?_) ?_
  · rw [mm_plain dot_S128x256_S256x256_S128x256_1_0_0_1_n_n rfl]
    simp only [Nat.zero_add]
  · simp only [Nat.zero_add]

theorem wV_apply {cc w : ℕ} (d : DotDims (Mx 128 256) (Mx 256 w) (Mx 128 w)) (hd : d = DotDims.plain 128 256 w) (x : Fin 128) (z : Fin w) :
    wV (F := Ideal) N Q cc w d (ix2 x z) = ∑ k ∈ Finset.range 1536, Q x.val k * N k (cc + z.val) := by
  show (sumV (F := Ideal) 5 _ (ix2 x z) : EReal) = _
  rw [sumV_apply, show (1536 : ℕ) = 256 * 6 from rfl, ← sum_blocks]
  refine Finset.sum_congr rfl fun k _ => ?_
  rw [mm_plain _ hd]
  simp only [Nat.zero_add]

theorem gB_apply (x z : Fin 256) :
    sumV (F := Ideal) 5 (gB Y) (ix2 x z) = ∑ k ∈ Finset.range 1536, Y (128 + x.val) k * Y (128 + z.val) k := by
  rw [sumV_apply, show (1536 : ℕ) = 256 * 6 from rfl, ← sum_blocks]
  exact Finset.sum_congr rfl fun k _ => mm_trans _ rfl _ _ _ _ _ _ _ _

theorem gS_apply (x z : Fin 128) :
    sumV (F := Ideal) 5 (gS Y) (ix2 x z) = ∑ k ∈ Finset.range 1536, Y (128 + x.val) k * Y z.val k := by
  rw [sumV_apply, show (1536 : ℕ) = 256 * 6 from rfl, ← sum_blocks]
  refine Finset.sum_congr rfl fun k _ => ?_
  have e : extractStridedSlice S128x256 ![0, 0] (Blk (F := Ideal) (e := .bf16) 256 256 Y 128 (256 * k)) slices_S256x256_o0_0_S128x256 = Blk (F := Ideal) (e := .bf16) 128 256 Y 128 (256 * k) := by
    funext y
    show Y (128 + (0 + (y 0).val)) (256 * k + (0 + (y 1).val)) = Y (128 + (y 0).val) (256 * k + (y 1).val)
    simp only [Nat.zero_add]
  unfold gS
  rw [e, mm_trans dot_S128x256_S128x256_S128x128_1_1_0_0_n_n rfl]
  simp only [Nat.zero_add]

theorem at2_ix {m n : ℕ} [NeZero m] [NeZero n] {α : Type} (X : (⟨2, ![m, n]⟩ : Shape).Idx → α) {a b : ℕ} (ha : a < m) (hb : b < n) :
    at2 X a b = X (ix2 ⟨a, ha⟩ ⟨b, hb⟩) := (at2_eq X (ix2 ⟨a, ha⟩ ⟨b, hb⟩) rfl rfl).symm

/-! ## What the tables hold -/

/-- The transposed table holds the `W` rows of a finite matrix of 120 columns, and zeros under them. -/
structure IsM (W : ℕ) (T X : ℕ → ℕ → EReal) : Prop where
  val : ∀ r c, r < 120 → c < W → T r c = X c r
  pad : ∀ r c, 120 ≤ r → r < 128 → c < W → T r c = 0
  fin : ∀ r c, r < 120 → c < W → Fi (X c r)

/-- The split table holds zeros, a finite matrix's transpose, and zeros. -/
structure IsY (T X : ℕ → ℕ → EReal) : Prop where
  lo : ∀ r c, r < 128 → c < 1536 → T r c = 0
  hi : ∀ r c, r < 120 → c < 1536 → T (128 + r) c = X c r
  pad : ∀ r c, 120 ≤ r → r < 128 → c < 1536 → T (128 + r) c = 0
  top : ∀ r c, r < 128 → c < 1536 → T (256 + r) c = 0
  fin : ∀ r c, r < 120 → c < 1536 → Fi (X c r)

/-- The products of the problem: `A X`, `Aᵀ Q`, the Gram matrix, and the product with a triangular factor. -/
def yy (A X : ℕ → ℕ → EReal) (s k : ℕ) : EReal := ∑ n ∈ Finset.range 2880, A s n * X n k
def ww (A Q : ℕ → ℕ → EReal) (n k : ℕ) : EReal := ∑ s ∈ Finset.range 1536, A s n * Q s k
def gg (Y : ℕ → ℕ → EReal) (k l : ℕ) : EReal := ∑ s ∈ Finset.range 1536, Y s k * Y s l
def qq (Y T : ℕ → ℕ → EReal) (s l : ℕ) : EReal := ∑ k ∈ Finset.range 120, Y s k * (if k ≤ l then T l k else 0)

variable {L A N Y C Q}

theorem IsM.y {M X : ℕ → ℕ → EReal} (hL : IsM 2880 L X) (hM : ∀ s d, Fi (M s d)) (hA : ∀ d s, A d s = M s d) : IsY (ycT (F := Ideal) L A) (yy M X) := by
  have hf : ∀ r c, r < 120 → Fi (yy M X c r) := fun r c hr => Fi.sum fun k hk => (hM c k).mul (hL.fin r k hr hk)
  have hv : ∀ r c, (hr : r < 120) → (hc : c < 1536) → yV (F := Ideal) L A (c / 256) (ix2 ⟨r, by omega⟩ ⟨c % 256, by omega⟩) = yy M X c r := fun r c hr hc => by
    rw [yV_apply]
    refine Finset.sum_congr rfl fun k hk => ?_
    show L r k * A k (256 * (c / 256) + c % 256) = _
    rw [show 256 * (c / 256) + c % 256 = c by omega, hL.val r k hr (Finset.mem_range.mp hk), hA, mul_comm]
  have hp : ∀ r c, (h : 120 ≤ r) → (hr : r < 128) → (hc : c < 1536) → yV (F := Ideal) L A (c / 256) (ix2 ⟨r, by omega⟩ ⟨c % 256, by omega⟩) = (0 : EReal) := fun r c h hr hc => by
    rw [yV_apply]
    refine Finset.sum_eq_zero fun k hk => ?_
    show L r k * A k _ = _
    rw [hL.pad r k h hr (Finset.mem_range.mp hk), zero_mul]
  have hF : ∀ r c, (hr : r < 128) → (hc : c < 1536) → Fi (yV (F := Ideal) L A (c / 256) (ix2 ⟨r, by omega⟩ ⟨c % 256, by omega⟩)) := fun r c hr hc => by
    by_cases h : r < 120
    · rw [hv r c h hc]; exact hf r c h
    · rw [hp r c (by omega) hr hc]; exact Fi.zero
  have hhi : ∀ r c, (hr : r < 128) → ycT (F := Ideal) L A (128 + r) c = yV (F := Ideal) L A (c / 256) (ix2 ⟨r, by omega⟩ ⟨c % 256, by omega⟩) := fun r c hr => by
    unfold ycT
    rw [if_neg (by omega), if_pos (by omega), Nat.add_sub_cancel_left, at2_ix _ hr (show c % 256 < 256 by omega)]
    rfl
  refine ⟨fun r c hr hc => ?_, fun r c hr hc => ?_, fun r c h hr hc => ?_, fun r c hr hc => ?_, fun r c hr hc => hf r c hr⟩
  · unfold ycT
    rw [if_pos hr, at2_ix _ hr (show c % 256 < 256 by omega)]
    exact loP_apply _ _ (hF r c hr hc)
  · rw [hhi r c (by omega), hv r c hr hc]
  · rw [hhi r c (by omega), hp r c h hr hc]
  · unfold ycT
    rw [if_neg (by omega), if_neg (by omega), Nat.add_sub_cancel_left, at2_ix _ hr (show c % 256 < 256 by omega)]
    exact midP_apply _ _ (hF r c hr hc)

theorem IsY.gram {X : ℕ → ℕ → EReal} (hY : IsY Y X) {a b : ℕ} (ha : a < 120) (hb : b < 120) : at2 (grV (F := Ideal) Y) a b = gg X a b := by
  rw [at2_ix _ (show a < 128 by omega) (show b < 128 by omega)]
  have e1 : sumV (F := Ideal) 5 (gB Y) (ix2 ⟨128 + a, by omega⟩ ⟨0 + b, by omega⟩) = (0 : EReal) := by
    rw [gB_apply]
    refine Finset.sum_eq_zero fun k hk => ?_
    show Y (128 + (128 + a)) k * _ = _
    rw [← Nat.add_assoc, hY.top a k (by omega) (Finset.mem_range.mp hk), zero_mul]
  have e2 : ∀ p : ℕ, (hp : p < 256) → sumV (F := Ideal) 5 (gB Y) (ix2 ⟨p, hp⟩ ⟨128 + b, by omega⟩) = (0 : EReal) := fun p hp => by
    rw [gB_apply]
    refine Finset.sum_eq_zero fun k hk => ?_
    show _ * Y (128 + (128 + b)) k = _
    rw [← Nat.add_assoc, hY.top b k (by omega) (Finset.mem_range.mp hk), mul_zero]
  have e3 : ∀ p q : ℕ, (hp : p < 128) → (hq : q < 128) → sumV (F := Ideal) 5 (gS Y) (ix2 ⟨p, hp⟩ ⟨q, hq⟩) = (0 : EReal) := fun p q hp hq => by
    rw [gS_apply]
    refine Finset.sum_eq_zero fun k hk => ?_
    show _ * Y q k = _
    rw [hY.lo q k hq (Finset.mem_range.mp hk), mul_zero]
  have e4 : sumV (F := Ideal) 5 (gB Y) (ix2 ⟨0 + a, by omega⟩ ⟨0 + b, by omega⟩) = gg X a b := by
    rw [gB_apply]
    refine Finset.sum_congr rfl fun k hk => ?_
    show Y (128 + (0 + a)) k * Y (128 + (0 + b)) k = _
    rw [Nat.zero_add, Nat.zero_add, hY.hi a k ha (Finset.mem_range.mp hk), hY.hi b k hb (Finset.mem_range.mp hk)]
  have sl : ∀ (o p : ℕ) (v : FVec Ideal S256x256 .f32) (h : (Mx 256 256).Slices ![o, p] (Mx 128 128)) (ho : o ≤ 128) (hp : p ≤ 128),
      extractStridedSlice S128x128 ![o, p] v h (ix2 ⟨a, by omega⟩ ⟨b, by omega⟩) = v (ix2 ⟨o + a, by omega⟩ ⟨p + b, by omega⟩) := fun o p v h ho hp => by
    show v _ = v _
    congr 1
    funext y
    fin_cases y <;> rfl
  show (((extractStridedSlice S128x128 ![128, 0] (sumV (F := Ideal) 5 (gB Y)) slices_S256x256_o128_0_S128x128 _
      + extractStridedSlice S128x128 ![0, 128] (sumV (F := Ideal) 5 (gB Y)) slices_S256x256_o0_128_S128x128 _)
    + (extractStridedSlice S128x128 ![128, 128] (sumV (F := Ideal) 5 (gB Y)) slices_S256x256_o128_128_S128x128 _
      + (sumV (F := Ideal) 5 (gS Y) _ + transpose S128x128 [1, 0] (sumV (F := Ideal) 5 (gS Y)) transposes_S128x128_p1_0_S128x128 _)))
    + extractStridedSlice S128x128 ![0, 0] (sumV (F := Ideal) 5 (gB Y)) slices_S256x256_o0_0_S128x128 _ : EReal) = _
  rw [transpose_ix2_apply, sl 128 0 _ _ (by omega) (by omega), sl 0 128 _ _ (by omega) (by omega), sl 128 128 _ _ (by omega) (by omega), sl 0 0 _ _ (by omega) (by omega)]
  rw [e1, e2, e2, e3, e3, e4]
  simp only [add_zero, zero_add]

theorem tV_apply (T : ℕ → ℕ → EReal) (x z : Fin 128) :
    tV (F := Ideal) T (ix2 x z) = if x.val < z.val ∨ 120 ≤ x.val then (0 : EReal) else T x.val z.val := by
  have hx : x.val < 2 ^ (32 - 1) := lt_of_lt_of_le x.isLt (by norm_num)
  have hz : z.val < 2 ^ (32 - 1) := lt_of_lt_of_le z.isLt (by norm_num)
  show (if IntOp.ori (IntOp.cmpi .sgt (BitVec.ofNat 32 (0 * 128 + z.val)) (BitVec.ofNat 32 (0 * 128 + x.val))) (IntOp.cmpi .sge (BitVec.ofNat 32 (0 * 128 + x.val)) (BitVec.ofNat 32 120)) = 1#1 then (Ideal.ofBits .f32 0x00000000#32 : EReal) else T (0 + x.val) (0 + z.val)) = _
  rw [Nat.zero_mul, Nat.zero_add, Nat.zero_add, WordCmp.cmpi_sgt_eq, WordCmp.cmpi_sge_eq, WordCmp.ori_ofBool, WordCmp.toInt_ofNat_of_lt hx, WordCmp.toInt_ofNat_of_lt hz, WordCmp.toInt_ofNat_of_lt (by norm_num),
    Ideal.ofBits_zero_f32]
  refine if_congr ?_ rfl rfl
  rw [WordCmp.ofBool_eq_one_iff]
  simp only [Bool.or_eq_true, decide_eq_true_eq, Nat.cast_lt]
  refine or_congr Iff.rfl ?_
  exact_mod_cast Iff.rfl

theorem tcT_hi (T : ℕ → ℕ → EReal) {x k : ℕ} (hx : x < 128) (hk : k < 128) : tcT (F := Ideal) T x k = if x < k ∨ 120 ≤ x then (0 : EReal) else T x k := by
  unfold tcT
  rw [if_pos (by omega), Nat.mod_eq_of_lt hk, at2_ix _ hx hk, hiP_apply, tV_apply]

theorem tV_fin (T : ℕ → ℕ → EReal) (hT : ∀ a b, Fi (T a b)) (x z : Fin 128) : Fi (tV (F := Ideal) T (ix2 x z)) := by
  rw [tV_apply]
  split_ifs
  · exact Fi.zero
  · exact hT _ _
theorem tcT_mid (T : ℕ → ℕ → EReal) (hT : ∀ a b, Fi (T a b)) {x k : ℕ} (hx : x < 128) (h : 256 ≤ k) (hk : k < 512) : tcT (F := Ideal) T x k = (0 : EReal) := by
  unfold tcT
  rw [if_neg (by omega), if_pos hk, at2_ix _ hx (show k % 128 < 128 by omega)]
  exact midP_apply _ _ (tV_fin T hT _ _)
theorem tcT_lo (T : ℕ → ℕ → EReal) (hT : ∀ a b, Fi (T a b)) {x k : ℕ} (hx : x < 128) (h : 640 ≤ k) : tcT (F := Ideal) T x k = (0 : EReal) := by
  unfold tcT
  rw [if_neg (by omega), if_neg (by omega), if_neg (by omega), at2_ix _ hx (show k % 128 < 128 by omega)]
  exact loP_apply _ _ (tV_fin T hT _ _)

theorem qV_apply (n : ℕ) (x : Fin 128) (z : Fin 256) : qV (F := Ideal) Y C n (ix2 x z) =
    (∑ k ∈ Finset.range 256, C x.val (512 + k) * Y k (256 * n + z.val) + ∑ k ∈ Finset.range 256, C x.val (256 + k) * Y (128 + k) (256 * n + z.val))
      + ∑ k ∈ Finset.range 256, C x.val k * Y (128 + k) (256 * n + z.val) := by
  show ((matmul (F := Ideal) _ none _ _ _ (ix2 x z) + matmul (F := Ideal) _ none _ _ _ (ix2 x z)) + matmul (F := Ideal) _ none _ _ _ (ix2 x z) : EReal) = _
  rw [mm_plain dot_S128x256_S256x256_S128x256_1_0_0_1_n_n rfl, mm_plain dot_S128x256_S256x256_S128x256_1_0_0_1_n_n rfl, mm_plain dot_S128x256_S256x256_S128x256_1_0_0_1_n_n rfl]
  simp only [Nat.zero_add]

theorem IsY.q {X T : ℕ → ℕ → EReal} (hY : IsY Y X) (hT : ∀ a b, Fi (T a b)) : IsM 1536 (qtT (F := Ideal) Y (tcT (F := Ideal) T)) (qq X T) := by
  have key : ∀ r c, r < 128 → c < 1536 → qtT (F := Ideal) Y (tcT (F := Ideal) T) r c
      = ∑ k ∈ Finset.range 120, (if r < k ∨ 120 ≤ r then (0 : EReal) else T r k) * X c k := fun r c hr hc => by
    unfold qtT
    rw [at2_ix _ hr (show c % 256 < 256 by omega), qV_apply]
    show (∑ k ∈ Finset.range 256, tcT (F := Ideal) T r (512 + k) * Y k (256 * (c / 256) + c % 256) + ∑ k ∈ Finset.range 256, tcT (F := Ideal) T r (256 + k) * Y (128 + k) (256 * (c / 256) + c % 256)
      + ∑ k ∈ Finset.range 256, tcT (F := Ideal) T r k * Y (128 + k) (256 * (c / 256) + c % 256) : EReal) = _
    rw [show 256 * (c / 256) + c % 256 = c by omega]
    rw [Finset.sum_eq_zero (s := Finset.range 256) (f := fun k => tcT (F := Ideal) T r (512 + k) * Y k c) fun k hk => ?_,
      Finset.sum_eq_zero (s := Finset.range 256) (f := fun k => tcT (F := Ideal) T r (256 + k) * Y (128 + k) c) fun k hk => ?_,
      zero_add, zero_add, show (256 : ℕ) = 120 + 136 from rfl, Finset.sum_range_add,
      Finset.sum_eq_zero (s := Finset.range 136) (f := fun k => tcT (F := Ideal) T r (120 + k) * Y (128 + (120 + k)) c) fun k hk => ?_, add_zero]
    · refine Finset.sum_congr rfl fun k hk => ?_
      have hk' := Finset.mem_range.mp hk
      rw [tcT_hi T hr (by omega), hY.hi k c hk' hc]
    · have hk' := Finset.mem_range.mp hk
      by_cases h : k < 8
      · rw [hY.pad (120 + k) c (by omega) (by omega) hc, mul_zero]
      · rw [show 128 + (120 + k) = 256 + (k - 8) by omega, hY.top (k - 8) c (by omega) hc, mul_zero]
    · rw [tcT_mid T hT hr (by omega) (by have := Finset.mem_range.mp hk; omega), zero_mul]
    · by_cases h : k < 128
      · rw [hY.lo k c h hc, mul_zero]
      · rw [tcT_lo T hT hr (by omega), zero_mul]
  have hv : ∀ r c, r < 120 → c < 1536 → qtT (F := Ideal) Y (tcT (F := Ideal) T) r c = qq X T c r := fun r c hr hc => by
    rw [key r c (by omega) hc]
    refine Finset.sum_congr rfl fun k hk => ?_
    rw [mul_comm]
    refine congrArg (X c k * ·) ?_
    by_cases h : k ≤ r
    · rw [if_neg (by omega), if_pos h]
    · rw [if_pos (by omega), if_neg h]
  refine ⟨hv, fun r c h hr hc => ?_, fun r c hr hc => Fi.sum fun k hk => (hY.fin k c hk hc).mul ?_⟩
  · rw [key r c hr hc]
    exact Finset.sum_eq_zero fun k _ => by rw [if_pos (Or.inr h), zero_mul]
  · split_ifs
    · exact hT _ _
    · exact Fi.zero

theorem wt_sum (r c : ℕ) (hr : r < 128) (hc : c < 2880) : wtT (F := Ideal) N Q r c = ∑ k ∈ Finset.range 1536, Q r k * N k c := by
  unfold wtT
  by_cases h : c < 2816
  · rw [if_pos h, at2_ix _ hr (show c % 256 < 256 by omega), hiP_apply, wV_apply N Q dot_S128x256_S256x256_S128x256_1_0_0_1_n_n rfl]
    show ∑ k ∈ Finset.range 1536, Q r k * N k (256 * (c / 256) + c % 256) = _
    rw [show 256 * (c / 256) + c % 256 = c by omega]
  · rw [if_neg h, at2_ix _ hr (show c - 2816 < 64 by omega), hiP_apply, wV_apply N Q dot_S128x256_S256x64_S128x64_1_0_0_1_n_n rfl]
    show ∑ k ∈ Finset.range 1536, Q r k * N k (2816 + (c - 2816)) = _
    rw [show 2816 + (c - 2816) = c by omega]
theorem bs_wt (r c : ℕ) (hr : r < 128) (hc : c < 2880) : bsT (F := Ideal) N Q r c = wtT (F := Ideal) N Q r c := by
  unfold wtT bsT
  by_cases h : c < 2816
  · rw [if_pos h, if_pos h]; rfl
  · rw [if_neg h, if_neg h]; rfl

theorem IsM.w {M q : ℕ → ℕ → EReal} (hQ : IsM 1536 Q q) (hM : ∀ s d, Fi (M s d)) (hN : ∀ s d, N s d = M s d) : IsM 2880 (wtT (F := Ideal) N Q) (ww M q) := by
  refine ⟨fun r c hr hc => ?_, fun r c h hr hc => ?_, fun r c hr hc => Fi.sum fun k hk => (hM k c).mul (hQ.fin r k hr hk)⟩
  · rw [wt_sum r c (by omega) hc]
    exact Finset.sum_congr rfl fun k hk => by rw [hQ.val r k hr (Finset.mem_range.mp hk), hN, mul_comm]
  · rw [wt_sum r c hr hc]
    exact Finset.sum_eq_zero fun k hk => by rw [hQ.pad r k h hr (Finset.mem_range.mp hk), zero_mul]

theorem IsM.b {M q : ℕ → ℕ → EReal} (hQ : IsM 1536 Q q) (hM : ∀ s d, Fi (M s d)) (hN : ∀ s d, N s d = M s d) (r c : ℕ) (hr : r < 120) (hc : c < 2880) :
    bsT (F := Ideal) N Q r c = ww M q c r := by
  rw [bs_wt r c (by omega) hc]
  exact (hQ.w hM hN).val r c hr hc

end tables

end Cert.KernelIdeal.Hand

end
-- ==== Proof.Rounds.lean ====
/- The three rounds over the extended reals: with finite arguments the kernel's tables are the plain products. -/
module

public import proofs.«01_k».proof.Proof.Sums

@[expose] public section

noncomputable section

namespace Cert.KernelIdeal.Hand

open Idealize.ShloMosaic Idealize.ShloMosaic.ValueIdx
open Facts₀ Facts

variable [Facts]

section mathematics
variable (M : ℕ → ℕ → ℕ → EReal) (O : ℕ → ℕ → EReal) (T : ℕ → ℕ → ℕ → ℕ → EReal) (b : ℕ)

/-- The wide products and the orthonormal factors of the three rounds, for the matrices `M b`, the random matrix `O` and the
    triangular factors `T b k`. -/
def mY0 : ℕ → ℕ → EReal := yy (M b) O
def mQ0 : ℕ → ℕ → EReal := qq (mY0 M O b) (T b 0)
def mY1 : ℕ → ℕ → EReal := yy (M b) (ww (M b) (mQ0 M O T b))
def mQ1 : ℕ → ℕ → EReal := qq (mY1 M O T b) (T b 1)
def mY2 : ℕ → ℕ → EReal := yy (M b) (ww (M b) (mQ1 M O T b))
def mQ2 : ℕ → ℕ → EReal := qq (mY2 M O T b) (T b 2)
/-- The last product, and the Gram matrix of round `k`. -/
def mB : ℕ → ℕ → EReal := fun k n => ww (M b) (mQ2 M O T b) n k
def mG (k : ℕ) : ℕ → ℕ → EReal := if k = 0 then gg (mY0 M O b) else if k = 1 then gg (mY1 M O T b) else gg (mY2 M O T b)
end mathematics

section kernel
variable (i : Inp Ideal)

/-- The scaled matrices, the random matrix and the factors, as tables. -/
def iM : ℕ → ℕ → ℕ → EReal := fun b s d =>
  FloatOps.mulf (F := Ideal) (φ := .bf16) (FloatOps.sitofp .bf16 (at3 i.codes b s d)) (at3 i.scale b s (d / 32))
def iO : ℕ → ℕ → EReal := at2 i.omega
def iT : ℕ → ℕ → ℕ → ℕ → EReal := at4 i.tinv

/-- Every scale, every entry of the random matrix and every entry of the factors is finite. -/
structure Finite : Prop where
  scale : ∀ y, Fi (i.scale y)
  omega : ∀ y, Fi (i.omega y)
  tinv : ∀ y, Fi (i.tinv y)

variable {i} (h : Finite i) (b : ℕ)
include h

theorem Finite.m (s d : ℕ) : Fi (iM i b s d) := Fi.mul ⟨_, rfl⟩ (h.scale _)
theorem Finite.t (k r c : ℕ) : Fi (iT i b k r c) := h.tinv _

theorem Finite.o : IsM 2880 (omT i) (iO i) := by
  refine ⟨fun r c hr hc => if_pos hr, fun r c h0 hr hc => ?_, fun r c hr hc => h.omega _⟩
  unfold omT
  rw [if_neg (by omega)]
  show Ideal.ofBits .bf16 0x0000#16 = 0
  simp [Ideal.ofBits, Ideal.ieee]

theorem Finite.y0 : IsY (y0T i b) (mY0 (iM i) (iO i) b) := h.o.y (h.m b) fun _ _ => rfl
theorem Finite.q0 : IsM 1536 (qtT (y0T i b) (fcT i b 0)) (mQ0 (iM i) (iO i) (iT i) b) := (h.y0 b).q (h.t b 0)
theorem Finite.y1 : IsY (y1T i b) (mY1 (iM i) (iO i) (iT i) b) := ((h.q0 b).w (h.m b) fun _ _ => rfl).y (h.m b) fun _ _ => rfl
theorem Finite.q1 : IsM 1536 (qtT (y1T i b) (fcT i b 1)) (mQ1 (iM i) (iO i) (iT i) b) := (h.y1 b).q (h.t b 1)
theorem Finite.y2 : IsY (y2T i b) (mY2 (iM i) (iO i) (iT i) b) := ((h.q1 b).w (h.m b) fun _ _ => rfl).y (h.m b) fun _ _ => rfl
theorem Finite.q2 : IsM 1536 (qtT (y2T i b) (fcT i b 2)) (mQ2 (iM i) (iO i) (iT i) b) := (h.y2 b).q (h.t b 2)
theorem Finite.last {k n : ℕ} (hk : k < 120) (hn : n < 2880) : bT i b k n = mB (iM i) (iO i) (iT i) b k n :=
  (h.q2 b).b (h.m b) (fun _ _ => rfl) k n hk hn
theorem Finite.g (k : ℕ) {r c : ℕ} (hr : r < 120) (hc : c < 120) : grT i b k r c = mG (iM i) (iO i) (iT i) b k r c := by
  unfold grT mG
  by_cases h0 : k = 0
  · rw [if_pos h0, if_pos h0]; exact (h.y0 b).gram hr hc
  · rw [if_neg h0, if_neg h0]
    by_cases h1 : k = 1
    · rw [if_pos h1, if_pos h1]; exact (h.y1 b).gram hr hc
    · rw [if_neg h1, if_neg h1]; exact (h.y2 b).gram hr hc

end kernel

end Cert.KernelIdeal.Hand

end
-- ==== Proof.RefValue.lean ====
/- The reference's arrays over the extended reals, read at an index: each product is a sum over one range, and the factor
   is the given one with its entries over the diagonal left out. -/
module

public import proofs.«01_k».proof.Proof.Rounds
public import proofs.«01_k».proof.Proof.Gen.ReferenceIdeal.Run
public import Idealize.ShloMosaic.Lib.Pointwise
public import Idealize.ShloMosaic.Lib.Pipeline.Value

@[expose] public section

noncomputable section

namespace Cert.RefValue

open Idealize.ShloMosaic Cert.ReferenceIdeal Cert.ReferenceIdeal.Gen Cert.KernelIdeal.Hand

/-- An array of three axes that holds the table `M b s d`. -/
def Tab3 {φ : FTy} {l m n : ℕ} (x : FVec Ideal ⟨3, ![l, m, n]⟩ φ) (M : ℕ → ℕ → ℕ → EReal) : Prop :=
  ∀ j, x j = M (j 0).val (j 1).val (j 2).val

/-- The scaled matrix. -/
def aR (x0 : IVec S6x1536x2880 8) (x1 : FVec Ideal S6x1536x90 .f32) : FVec Ideal S6x1536x2880 .bf16 :=
  shapeCast _ (mulf (shapeCast _ (sitofp .bf16 (extsi 32 x0 natLt_8_32)) shapeCasts_S6x1536x2880_S6x1536x90x32)
    (broadcastInDim S6x1536x90x32 ![0, 1, 2, 3] bcast_S6x1536x90x1_S6x1536x90x32_0_1_2_3
      (broadcastInDim S6x1536x90x1 ![0, 1, 2] bcast_S6x1536x90_S6x1536x90x1_0_1_2 (truncf .bf16 x1 bitsLt_bf16_f32))))
    shapeCasts_S6x1536x90x32_S6x1536x2880
/-- The first product. -/
def yoR (a : FVec Ideal S6x1536x2880 .bf16) (o : FVec Ideal S2880x120 .bf16) : FVec Ideal S6x1536x120 .f32 :=
  Host.dotGeneral dot_S6x1536x2880_S2880x120_S6x1536x120_2_0_01_1_n_n none a o
/-- A later product of the same kind. -/
def yR (a : FVec Ideal S6x1536x2880 .bf16) (w : FVec Ideal S6x2880x120 .bf16) : FVec Ideal S6x1536x120 .f32 :=
  Host.dotGeneral dot_S6x1536x2880_S6x2880x120_S6x1536x120_2_1_1_2_0_0 none a w
/-- The product from the other side. -/
def wR (a : FVec Ideal S6x1536x2880 .bf16) (q : FVec Ideal S6x1536x120 .bf16) : FVec Ideal S6x2880x120 .bf16 :=
  truncf .bf16 (Host.dotGeneral dot_S6x1536x2880_S6x1536x120_S6x2880x120_1_1_2_2_0_0 none a q) bitsLt_bf16_f32
/-- The last product. -/
def bR (a : FVec Ideal S6x1536x2880 .bf16) (q : FVec Ideal S6x1536x120 .bf16) : FVec Ideal S6x120x2880 .f32 :=
  Host.dotGeneral dot_S6x1536x120_S6x1536x2880_S6x120x2880_1_1_2_2_0_0 none q a
/-- The Gram matrix. -/
def gR (y : FVec Ideal S6x1536x120 .f32) : FVec Ideal S6x120x120 .f32 :=
  Host.dotGeneral dot_S6x1536x120_S6x1536x120_S6x120x120_1_1_2_2_0_0 (some .fp32) y y
/-- The lower triangle of a given factor. -/
def trilR (t : FVec Ideal S6x120x120 .f32) : FVec Ideal S6x120x120 .f32 :=
  select (broadcastInDim S6x120x120 ![1, 2] bcast_S120x120_S6x120x120_1_2 (cmpi .sge
    (broadcastInDim S120x120 ![0, 1] bcast_S120x1_S120x120_0_1 (broadcastInDim S120x1 ![0] bcast_S120_S120x1_0 (iotaInDim S120 32 0)))
    (broadcastInDim S120x120 ![0, 1] bcast_S1x120_S120x120_0_1 (broadcastInDim S1x120 ![1] bcast_S120_S1x120_1 (iotaInDim S120 32 0)))))
    t (broadcastInDim S6x120x120 ![] bcast_S_S6x120x120 (id (constant S_ .f32 0x00000000#32)))
/-- The orthonormal factor. -/
def qR (y : FVec Ideal S6x1536x120 .f32) (t : FVec Ideal S6x120x120 .f32) : FVec Ideal S6x1536x120 .bf16 :=
  truncf .bf16 (Host.dotGeneral dot_S6x1536x120_S6x120x120_S6x1536x120_2_2_1_1_0_0 (some .fp32) y (trilR t)) bitsLt_bf16_f32

section products
variable {a : FVec Ideal S6x1536x2880 .bf16} {M X : ℕ → ℕ → ℕ → EReal}

theorem yoR_tab {o : FVec Ideal S2880x120 .bf16} (ha : Tab3 a M) : Tab3 (yoR a o) fun b => yy (M b) (at2 o) := by
  intro j
  unfold yoR yy
  simp only [Host.dotGeneral]
  rw [Ideal.dotGeneral_apply, DotDims.sum_contr₁ _ (K := 2880) rfl rfl, Finset.sum_range]
  refine Finset.sum_congr rfl fun k _ => ?_
  rw [ha]
  congr 1
  exact at2_eq (m := 2880) (n := 120) o _ rfl rfl

theorem yR_tab {w : FVec Ideal S6x2880x120 .bf16} (ha : Tab3 a M) (hw : Tab3 w X) : Tab3 (yR a w) fun b => yy (M b) (X b) := by
  intro j
  unfold yR yy
  simp only [Host.dotGeneral]
  rw [Ideal.dotGeneral_apply, DotDims.sum_contr₁ _ (K := 2880) rfl rfl, Finset.sum_range]
  refine Finset.sum_congr rfl fun k _ => ?_
  rw [ha, hw]
  rfl
theorem wR_tab {q : FVec Ideal S6x1536x120 .bf16} (ha : Tab3 a M) (hq : Tab3 q X) : Tab3 (wR a q) fun b => ww (M b) (X b) := by
  intro j
  show Host.dotGeneral _ none a q j = _
  unfold ww
  simp only [Host.dotGeneral]
  rw [Ideal.dotGeneral_apply, DotDims.sum_contr₁ _ (K := 1536) rfl rfl, Finset.sum_range]
  refine Finset.sum_congr rfl fun k _ => ?_
  rw [ha, hq]
  rfl
theorem bR_tab {q : FVec Ideal S6x1536x120 .bf16} (ha : Tab3 a M) (hq : Tab3 q X) : Tab3 (bR a q) fun b k n => ww (M b) (X b) n k := by
  intro j
  unfold bR ww
  simp only [Host.dotGeneral]
  rw [Ideal.dotGeneral_apply, DotDims.sum_contr₁ _ (K := 1536) rfl rfl, Finset.sum_range]
  refine Finset.sum_congr rfl fun k _ => ?_
  rw [ha, hq, mul_comm]
  rfl
theorem gR_tab {y : FVec Ideal S6x1536x120 .f32} (hy : Tab3 y X) : Tab3 (gR y) fun b => gg (X b) := by
  intro j
  unfold gR gg
  simp only [Host.dotGeneral]
  rw [Ideal.dotGeneral_apply, DotDims.sum_contr₁ _ (K := 1536) rfl rfl, Finset.sum_range]
  refine Finset.sum_congr rfl fun k _ => ?_
  rw [hy, hy]
  rfl
theorem tril_val (t : FVec Ideal S6x120x120 .f32) (j : S6x120x120.Idx) :
    trilR t j = if (j 2).val ≤ (j 1).val then t j else 0 := by
  show (if IntOp.cmpi .sge (BitVec.ofNat 32 (j 1).val) (BitVec.ofNat 32 (j 2).val) = 1#1 then t j else Ideal.ofBits .f32 0x00000000#32) = _
  have h1 : (j 1).val < 120 := (j 1).isLt
  have h2 : (j 2).val < 120 := (j 2).isLt
  rw [Ideal.ofBits_zero_f32, WordCmp.cmpi_sge_eq, WordCmp.toInt_ofNat_of_lt (lt_trans h1 (by norm_num)),
    WordCmp.toInt_ofNat_of_lt (lt_trans h2 (by norm_num))]
  exact if_congr (by rw [WordCmp.ofBool_decide_eq_one_iff]; exact Nat.cast_le) rfl rfl
theorem qR_tab {y : FVec Ideal S6x1536x120 .f32} {t : FVec Ideal S6x120x120 .f32} {T : ℕ → ℕ → ℕ → EReal} (hy : Tab3 y X) (ht : Tab3 t T) :
    Tab3 (qR y t) fun b => qq (X b) (T b) := by
  intro j
  show Host.dotGeneral _ (some .fp32) y (trilR t) j = _
  unfold qq
  simp only [Host.dotGeneral]
  rw [Ideal.dotGeneral_apply, DotDims.sum_contr₁ _ (K := 120) rfl rfl, Finset.sum_range]
  refine Finset.sum_congr rfl fun k _ => ?_
  rw [hy, tril_val, ht]
  rfl

end products

section inputs

theorem aR_tab (x0 : IVec S6x1536x2880 8) (x1 : FVec Ideal S6x1536x90 .f32) :
    Tab3 (aR x0 x1) fun b s d => FloatOps.mulf (F := Ideal) (φ := .bf16) (FloatOps.sitofp .bf16 (at3 x0 b s d)) (at3 (m := 1536) x1 b s (d / 32)) := by
  intro j
  have h0 : (j 0).val < 6 := (j 0).isLt
  have h1 : (j 1).val < 1536 := (j 1).isLt
  have h2 : (j 2).val < 2880 := (j 2).isLt
  let k : S6x1536x90x32.Idx := ValueIdx.ix4 (j 0) (j 1) (Fin.ofNat 90 ((j 2).val / 32)) (Fin.ofNat 32 ((j 2).val % 32))
  have k2 : (k 2).val = (j 2).val / 32 := Nat.mod_eq_of_lt (by omega)
  have k3 : (k 3).val = (j 2).val % 32 := Nat.mod_eq_of_lt (by omega)
  have hk : (S6x1536x90x32.rowMajor k).val = (S6x1536x2880.rowMajor j).val := by
    rw [Idealize.ShloMosaic.rowMajor_val4 k 4423680 2880 32 rfl rfl rfl, Idealize.ShloMosaic.rowMajor_val3 j 4423680 2880 rfl rfl, k2, k3]
    show (j 0).val * _ + (j 1).val * _ + _ + _ = _
    omega
  unfold aR
  rw [Idealize.ShloMosaic.shapeCast_apply _ _ j k hk]
  show FloatOps.mulf (F := Ideal) (φ := .bf16) (shapeCast _ (sitofp .bf16 (extsi 32 x0 natLt_8_32)) shapeCasts_S6x1536x2880_S6x1536x90x32 k)
    (broadcastInDim S6x1536x90x32 ![0, 1, 2, 3] bcast_S6x1536x90x1_S6x1536x90x32_0_1_2_3
      (broadcastInDim S6x1536x90x1 ![0, 1, 2] bcast_S6x1536x90_S6x1536x90x1_0_1_2 (truncf .bf16 x1 bitsLt_bf16_f32)) k) = _
  rw [Idealize.ShloMosaic.shapeCast_apply _ _ k j hk.symm]
  congr 1
  · show (((BitVec.signExtend 32 (x0 j)).toInt : ℝ) : EReal) = (((at3 x0 _ _ _).toInt : ℝ) : EReal)
    rw [at3_eq (l := 6) (m := 1536) (n := 2880) x0 j rfl rfl rfl, BitVec.toInt_signExtend_of_le (by decide)]
  · show x1 _ = _
    exact at3_eq (l := 6) (m := 1536) (n := 90) x1 _ rfl rfl k2

/-- The first 120 rows and columns of round `k`'s factor. -/
def tsR (x3 : FVec Ideal S6x3x128x128 .f32) (o : Fin 4 → ℕ) (h : S6x3x128x128.Slices o S6x1x128x128) : FVec Ideal S6x120x120 .f32 :=
  extractStridedSlice S6x120x120 ![0, 0, 0] (shapeCast _ (extractStridedSlice S6x1x128x128 o x3 h) shapeCasts_S6x1x128x128_S6x128x128)
    slices_S6x128x128_S6x120x120_0_0_0

theorem tsR_tab (x3 : FVec Ideal S6x3x128x128 .f32) (k : ℕ) (h : S6x3x128x128.Slices ![0, k, 0, 0] S6x1x128x128) :
    Tab3 (tsR x3 ![0, k, 0, 0] h) fun b r c => at4 x3 b k r c := by
  intro j
  have h0 : (j 0).val < 6 := (j 0).isLt
  have h1 : (j 1).val < 120 := (j 1).isLt
  have h2 : (j 2).val < 120 := (j 2).isLt
  let p : S6x128x128.Idx := ValueIdx.ix3 (j 0) (Fin.ofNat 128 (j 1).val) (Fin.ofNat 128 (j 2).val)
  let p' : S6x1x128x128.Idx := ValueIdx.ix4 (j 0) (0 : Fin 1) (Fin.ofNat 128 (j 1).val) (Fin.ofNat 128 (j 2).val)
  have p1 : (Fin.ofNat 128 (j 1).val).val = (j 1).val := Nat.mod_eq_of_lt (by omega)
  have p2 : (Fin.ofNat 128 (j 2).val).val = (j 2).val := Nat.mod_eq_of_lt (by omega)
  unfold tsR
  rw [Idealize.ShloMosaic.extractStridedSlice_apply _ _ _ j p (fun a => by
    match a with
    | ⟨0, _⟩ => exact (Nat.zero_add _).symm
    | ⟨1, _⟩ => exact p1.trans (Nat.zero_add _).symm
    | ⟨2, _⟩ => exact p2.trans (Nat.zero_add _).symm),
    Idealize.ShloMosaic.shapeCast_apply _ _ p p' (by
      rw [Idealize.ShloMosaic.rowMajor_val4 p' 16384 16384 128 rfl rfl rfl, Idealize.ShloMosaic.rowMajor_val3 p 16384 128 rfl rfl]
      have e : ∀ x y z : ℕ, x * 16384 + 0 * 16384 + y * 128 + z = x * 16384 + y * 128 + z := fun x y z => by omega
      exact e _ _ _)]
  show x3 _ = _
  refine at4_eq (k := 6) (l := 3) (m := 128) (n := 128) x3 _ ?_ ?_ ?_ ?_
  · exact Nat.zero_add _
  · rfl
  · exact (Nat.zero_add _).trans p1
  · exact (Nat.zero_add _).trans p2

/-- The three Gram matrices side by side. -/
def gsR (g0 g1 g2 : FVec Ideal S6x120x120 .f32) : FVec Ideal S6x3x120x120 .f32 :=
  concatenate S6x3x120x120 1 [⟨S6x1x120x120, broadcastInDim S6x1x120x120 ![0, 2, 3] bcast_S6x120x120_S6x1x120x120_0_2_3 g0⟩,
    ⟨S6x1x120x120, broadcastInDim S6x1x120x120 ![0, 2, 3] bcast_S6x120x120_S6x1x120x120_0_2_3 g1⟩,
    ⟨S6x1x120x120, broadcastInDim S6x1x120x120 ![0, 2, 3] bcast_S6x120x120_S6x1x120x120_0_2_3 g2⟩]
    concatenates_S6x1x120x120_S6x1x120x120_S6x1x120x120_S6x3x120x120_d1

theorem gsR_val {g0 g1 g2 : FVec Ideal S6x120x120 .f32} {G0 G1 G2 : ℕ → ℕ → ℕ → EReal} (h0 : Tab3 g0 G0) (h1 : Tab3 g1 G1) (h2 : Tab3 g2 G2)
    (j : S6x3x120x120.Idx) : gsR g0 g1 g2 j =
      (if (j 1).val = 0 then G0 else if (j 1).val = 1 then G1 else G2) (j 0).val (j 2).val (j 3).val := by
  have hj : (j 1).val < 3 := (j 1).isLt
  let p : S6x1x120x120.Idx := ValueIdx.ix4 (j 0) (0 : Fin 1) (j 2) (j 3)
  have hp : ∀ b : Fin 4, b ≠ 1 → (p b).val = (j b).val := fun b hb => by
    match b with
    | ⟨0, _⟩ => rfl
    | ⟨1, _⟩ => exact absurd rfl hb
    | ⟨2, _⟩ => rfl
    | ⟨3, _⟩ => rfl
  unfold gsR
  have h : (j 1).val = 0 ∨ (j 1).val = 1 ∨ (j 1).val = 2 := by omega
  rcases h with e | e | e
  · rw [Idealize.ShloMosaic.concatenate_apply_piece _ _ _ j 0 (by simp) S6x1x120x120 _ rfl rfl 0 rfl p hp e.symm, if_pos e]
    exact h0 _
  · rw [Idealize.ShloMosaic.concatenate_apply_piece _ _ _ j 1 (by simp) S6x1x120x120 _ rfl rfl 1 rfl p hp e.symm, if_neg (by omega), if_pos e]
    exact h1 _
  · rw [Idealize.ShloMosaic.concatenate_apply_piece _ _ _ j 2 (by simp) S6x1x120x120 _ rfl rfl 2 rfl p hp e.symm, if_neg (by omega), if_neg (by omega)]
    exact h2 _

end inputs

section results
variable (i : Inp Ideal)

/-- The reference's arrays, round by round. -/
def a' : FVec Ideal S6x1536x2880 .bf16 := aR i.codes i.scale
def y0' : FVec Ideal S6x1536x120 .f32 := yoR (a' i) i.omega
def q0' : FVec Ideal S6x1536x120 .bf16 := qR (y0' i) (tsR i.tinv ![0, 0, 0, 0] slices_S6x3x128x128_S6x1x128x128_0_0_0_0)
def y1' : FVec Ideal S6x1536x120 .f32 := yR (a' i) (wR (a' i) (q0' i))
def q1' : FVec Ideal S6x1536x120 .bf16 := qR (y1' i) (tsR i.tinv ![0, 1, 0, 0] slices_S6x3x128x128_S6x1x128x128_0_1_0_0)
def y2' : FVec Ideal S6x1536x120 .f32 := yR (a' i) (wR (a' i) (q1' i))
def q2' : FVec Ideal S6x1536x120 .bf16 := qR (y2' i) (tsR i.tinv ![0, 2, 0, 0] slices_S6x3x128x128_S6x1x128x128_0_2_0_0)
def b' : FVec Ideal S6x120x2880 .f32 := bR (a' i) (q2' i)
def g' : FVec Ideal S6x3x120x120 .f32 := gsR (gR (y0' i)) (gR (y1' i)) (gR (y2' i))

theorem a_tab : Tab3 (a' i) (iM i) := aR_tab i.codes i.scale
theorem y0_tab : Tab3 (y0' i) (mY0 (iM i) (iO i)) := yoR_tab (a_tab i)
theorem q0_tab : Tab3 (q0' i) (mQ0 (iM i) (iO i) (iT i)) := qR_tab (y0_tab i) (tsR_tab i.tinv 0 _)
theorem y1_tab : Tab3 (y1' i) (mY1 (iM i) (iO i) (iT i)) := yR_tab (a_tab i) (wR_tab (a_tab i) (q0_tab i))
theorem q1_tab : Tab3 (q1' i) (mQ1 (iM i) (iO i) (iT i)) := qR_tab (y1_tab i) (tsR_tab i.tinv 1 _)
theorem y2_tab : Tab3 (y2' i) (mY2 (iM i) (iO i) (iT i)) := yR_tab (a_tab i) (wR_tab (a_tab i) (q1_tab i))
theorem q2_tab : Tab3 (q2' i) (mQ2 (iM i) (iO i) (iT i)) := qR_tab (y2_tab i) (tsR_tab i.tinv 2 _)
theorem b_tab : Tab3 (b' i) (mB (iM i) (iO i) (iT i)) := bR_tab (a_tab i) (q2_tab i)
theorem g_val (j : S6x3x120x120.Idx) : g' i j = mG (iM i) (iO i) (iT i) (j 0).val (j 1).val (j 2).val (j 3).val := by
  unfold g' mG
  rw [gsR_val (gR_tab (y0_tab i)) (gR_tab (y1_tab i)) (gR_tab (y2_tab i))]
  by_cases h0 : (j 1).val = 0
  · rw [if_pos h0, if_pos h0]
  · rw [if_neg h0, if_neg h0]
    by_cases h1 : (j 1).val = 1
    · rw [if_pos h1, if_pos h1]
    · rw [if_neg h1, if_neg h1]

end results

end Cert.RefValue

end
-- ==== Proof.Algebraic.lean ====
/- The kernel and the reference return the same arrays over the extended reals when the arguments are finite. -/
module

public import proofs.«01_k».proof.Defs
public import proofs.«01_k».proof.Proof.Launch
public import proofs.«01_k».proof.Proof.RefValue
public import proofs.«01_k».proof.Proof.Gen.KernelIdeal

@[expose] public section

noncomputable section

namespace Cert.Algebraic

open Idealize.ShloMosaic Idealize.ShloMosaic.TcCoe Idealize.SL.Sem Cert.KernelIdeal.Hand

theorem preFacts : Cert.Pre_finite.Facts := ⟨by decide, by decide, by decide⟩

theorem fi_of_cmp {x t : EReal} (ht : t = ⊤) (h : Ideal.cmp .olt (max x (-x)) t = 1#1) : Fi x := by
  subst ht
  refine Fi.of_abs_lt ?_
  have h' : BitVec.ofBool (decide (max x (-x) < ⊤)) = 1#1 := h
  exact (WordCmp.ofBool_decide_eq_one_iff _).mp h'

/-- The precondition says that every float argument is finite. -/
theorem finite_of_pre {x0 : IVec Cert.Pre_finite.S6x1536x2880 8} {x1 : FVec Ideal Cert.Pre_finite.S6x1536x90 .f32}
    {x2 : FVec Ideal Cert.Pre_finite.S2880x120 .bf16} {x3 : FVec Ideal Cert.Pre_finite.S6x3x128x128 .f32} [Cert.Pre_finite.Facts]
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2 = (fun _ => 1#1)) : Finite ⟨x0, x1, x2, x3⟩ :=
  ⟨fun y => fi_of_cmp (t := Ideal.ofBits .f32 0x7F800000#32) (by simp [Ideal.ofBits, Ideal.ieee]) (congrFun h.1 y),
   fun y => fi_of_cmp (t := Ideal.ofBits .bf16 0x7F80#16) (by simp [Ideal.ofBits, Ideal.ieee]) (congrFun h.2.1 y),
   fun y => fi_of_cmp (t := Ideal.ofBits .f32 0x7F800000#32) (by simp [Ideal.ofBits, Ideal.ieee]) (congrFun h.2.2 y)⟩

/-- The reference ends at its named arrays of the arguments. -/
theorem reference (m : (ℓ : Loc Cert.ReferenceIdeal.nD Cert.ReferenceIdeal.τ Cert.ReferenceIdeal.sig) → Buf (Elt Ideal) ℓ)
    (ρ : Dev Cert.ReferenceIdeal.nD → PrngReg) (i : Dev Cert.ReferenceIdeal.nD → Inp Ideal)
    (hi : ∀ c : Dev Cert.ReferenceIdeal.nD,
      i c = ⟨m ((c.tc : Thread Cert.ReferenceIdeal.nD Cert.ReferenceIdeal.τ).loc Cert.ReferenceIdeal.main_arg0),
        m ((c.tc : Thread Cert.ReferenceIdeal.nD Cert.ReferenceIdeal.τ).loc Cert.ReferenceIdeal.main_arg1),
        m ((c.tc : Thread Cert.ReferenceIdeal.nD Cert.ReferenceIdeal.τ).loc Cert.ReferenceIdeal.main_arg2),
        m ((c.tc : Thread Cert.ReferenceIdeal.nD Cert.ReferenceIdeal.τ).loc Cert.ReferenceIdeal.main_arg3)⟩) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v53) = Cert.RefValue.q2' (i c)
        ∧ r.2.mem ((c.tc : Thread Cert.ReferenceIdeal.nD Cert.ReferenceIdeal.τ).loc Cert.ReferenceIdeal.main_v54) = Cert.RefValue.b' (i c)
        ∧ r.2.mem ((c.tc : Thread Cert.ReferenceIdeal.nD Cert.ReferenceIdeal.τ).loc Cert.ReferenceIdeal.main_v21) = Cert.RefValue.q0' (i c)
        ∧ r.2.mem ((c.tc : Thread Cert.ReferenceIdeal.nD Cert.ReferenceIdeal.τ).loc Cert.ReferenceIdeal.main_v37) = Cert.RefValue.q1' (i c)
        ∧ r.2.mem ((c.tc : Thread Cert.ReferenceIdeal.nD Cert.ReferenceIdeal.τ).loc Cert.ReferenceIdeal.main_v58) = Cert.RefValue.g' (i c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) := by
  refine (θ_run (Cert.ReferenceIdeal.defs (F := Ideal)) _ _).mono (fun _ h c => ?_) (Cert.ReferenceIdeal.Value.run (F := Ideal) m ρ)
  obtain ⟨h0, h1, h2, h3, h4, ha⟩ := h c
  rw [hi c]
  exact ⟨h0, h1, h2, h3, h4, ha⟩

/-- What the kernel leaves is the reference's arrays. -/
theorem results {i : Inp Ideal} (h : Finite i) {st : St Ideal} (d : Done i 6 st) :
    st.q = Cert.RefValue.q2' i ∧ st.b = Cert.RefValue.b' i ∧ st.q0 = Cert.RefValue.q0' i ∧ st.q1 = Cert.RefValue.q1' i
      ∧ st.g = Cert.RefValue.g' i := by
  refine ⟨funext fun y => ?_, funext fun y => ?_, funext fun y => ?_, funext fun y => ?_, funext fun y => ?_⟩
  · rw [d.q y (y 0).isLt, Cert.RefValue.q2_tab i y]
    exact (h.q2 _).val _ _ (y 2).isLt (y 1).isLt
  · rw [d.b y (y 0).isLt, Cert.RefValue.b_tab i y]
    exact h.last _ (y 1).isLt (y 2).isLt
  · rw [d.q0 y (y 0).isLt, Cert.RefValue.q0_tab i y]
    exact (h.q0 _).val _ _ (y 2).isLt (y 1).isLt
  · rw [d.q1 y (y 0).isLt, Cert.RefValue.q1_tab i y]
    exact (h.q1 _).val _ _ (y 2).isLt (y 1).isLt
  · rw [d.g y (y 0).isLt, Cert.RefValue.g_val i y]
    exact h.g _ _ (y 2).isLt (y 3).isLt

theorem algebraic : Cert.algebraic_KernelIdeal_ReferenceIdeal_pre_finite (hPre_finite := preFacts) := by
  intro m g m' g' hpre hargs
  refine ⟨fun c => Cert.RefValue.q2' (inp m c), fun c => Cert.RefValue.b' (inp m c), fun c => Cert.RefValue.q0' (inp m c),
    fun c => Cert.RefValue.q1' (inp m c), fun c => Cert.RefValue.g' (inp m c), ?_, ?_⟩
  · refine (θ_run (Cert.KernelIdeal.defs (F := Ideal)) _ _).mono (fun r h c => ?_) (run_main (F := Ideal) m g)
    obtain ⟨⟨st, d, e0, e1, e2, e3, e4⟩, ha⟩ := h.1 c
    have hf : Finite (inp m c) := @finite_of_pre _ _ _ _ preFacts (hpre c)
    obtain ⟨r0, r1, r2, r3, r4⟩ := results hf d
    exact ⟨e0.trans r0, e1.trans r1, e2.trans r2, e3.trans r3, e4.trans r4, ha⟩
  · refine reference m' g' (fun c => inp m c) fun c => ?_
    obtain ⟨h0, h1, h2, h3⟩ := hargs c
    rw [h0, h1, h2, h3]
    rfl

end Cert.Algebraic

end
-- ==== Proof.lean ====
module

public import proofs.«01_k».proof.Defs
public import proofs.«01_k».proof.Proof.Frames
public import proofs.«01_k».proof.Proof.Algebraic

@[expose] public section

noncomputable section

theorem Cert.Proof.claim : Cert.Claim :=
  ⟨Cert.Kernel.Gen.facts, Cert.KernelIdeal.Gen.facts, Cert.ReferenceIdeal.Gen.facts, Cert.Algebraic.preFacts,
    Cert.Frames.kernel, Cert.Frames.kernelIdeal, fun m g _ => Cert.Frames.kernelIdeal m g trivial,
    Cert.Frames.referenceIdeal, fun m g _ => Cert.Frames.referenceIdeal m g trivial, trivial, Cert.Algebraic.algebraic⟩

end
